-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_tie [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_no_tie [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_tie m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "step" .f32 0x3E088889#32 ((2 / 15 : ℝ) : EReal)

def algebraic_KernelIdeal_ReferenceIdeal_pre_finite_no_tie [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_KernelIdeal (hKernelIdeal := hKernelIdeal)
    ∧ quiescent_KernelIdeal_pre_finite_no_tie (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal_pre_finite_no_tie (hKernelIdeal := hKernelIdeal) (hReferenceIdeal := hReferenceIdeal) (hPre_finite_no_tie := hPre_finite_no_tie)
-- ==== Pre_finite_no_tie.lean ====
abbrev S64x1024x64 : Shape := ⟨3, ![64, 1024, 64]⟩
abbrev S_ : Shape := ⟨0, ![]⟩
abbrev S7 : Shape := ⟨1, ![7]⟩
abbrev S64x1024x64x1 : Shape := ⟨4, ![64, 1024, 64, 1]⟩
abbrev S1x1x1x7 : Shape := ⟨4, ![1, 1, 1, 7]⟩
abbrev S64x1024x64x7 : Shape := ⟨4, ![64, 1024, 64, 7]⟩

class Facts : Prop where
  bcast_S_S64x1024x64 : S_.BroadcastsInDim S64x1024x64 (![] : Fin 0 → Fin S64x1024x64.rank)
  bcast_S_S7 : S_.BroadcastsInDim S7 (![] : Fin 0 → Fin S7.rank)
  bcast_S64x1024x64_S64x1024x64x1_0_1_2 : S64x1024x64.BroadcastsInDim S64x1024x64x1 (![0, 1, 2] : Fin 3 → Fin S64x1024x64x1.rank)
  bcast_S7_S1x1x1x7_3 : S7.BroadcastsInDim S1x1x1x7 (![3] : Fin 1 → Fin S1x1x1x7.rank)
  bcast_S64x1024x64x1_S64x1024x64x7_0_1_2_3 : S64x1024x64x1.BroadcastsInDim S64x1024x64x7 (![0, 1, 2, 3] : Fin 4 → Fin S64x1024x64x7.rank)
  bcast_S1x1x1x7_S64x1024x64x7_0_1_2_3 : S1x1x1x7.BroadcastsInDim S64x1024x64x7 (![0, 1, 2, 3] : Fin 4 → Fin S64x1024x64x7.rank)
  reducesTo_S64x1024x64_S_d0_1_2 : S64x1024x64.ReducesTo [0, 1, 2] S_
  h_S_ : 0 < S_.numel
  reducesTo_S64x1024x64x7_S_d0_1_2_3 : S64x1024x64x7.ReducesTo [0, 1, 2, 3] S_

variable [Facts]

def fn_part1 {F : FTy → Type} [FloatOps F] (main_v2 : IVec S64x1024x64 1) (main_v17 : FVec F S64x1024x64x7 .f32) (main_v18 : FVec F S64x1024x64x7 .f32) : IVec S_ 1 :=
  let main_v19 : IVec S64x1024x64x7 1 := cmpf .une main_v17 main_v18
  let main_c_3 : IVec S_ 1 := constantI S_ 1 1#1
  let main_v20 : IVec S_ 1 := (fun x v => Host.reduce IntOp.andi x v reducesTo_S64x1024x64_S_d0_1_2 h_S_) main_v2 main_c_3
  let main_c_4 : IVec S_ 1 := constantI S_ 1 1#1
  let main_v21 : IVec S_ 1 := (fun x v => Host.reduce IntOp.andi x v reducesTo_S64x1024x64x7_S_d0_1_2_3 h_S_) main_v19 main_c_4
  let main_v22 : IVec S_ 1 := andi main_v20 main_v21
  main_v22

def fn {F : FTy → Type} [FloatOps F] (main_arg0 : FVec F S64x1024x64 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_v3 : IVec S7 32 := iotaInDim S7 32 0
  let main_c : IVec S_ 32 := constantI S_ 32 1#32
  let main_v4 : IVec S7 32 := broadcastInDim S7 ![] bcast_S_S7 main_c
  let main_v5 : IVec S7 32 := addi main_v4 main_v3
  let main_v6 : FVec F S7 .f32 := sitofp .f32 main_v5
  let main_cst_0 : FVec F S_ .f32 := constant S_ .f32 0x40000000#32
  let main_v7 : FVec F S7 .f32 := broadcastInDim S7 ![] bcast_S_S7 main_cst_0
  let main_v8 : FVec F S7 .f32 := mulf main_v7 main_v6
  let main_cst_1 : FVec F S_ .f32 := constant S_ .f32 0x41700000#32
  let main_v9 : FVec F S7 .f32 := broadcastInDim S7 ![] bcast_S_S7 main_cst_1
  let main_v10 : FVec F S7 .f32 := Host.divf main_v8 main_v9
  let main_cst_2 : FVec F S_ .f32 := constant S_ .f32 0x3DCCCCCD#32
  let main_v11 : FVec F S7 .f32 := broadcastInDim S7 ![] bcast_S_S7 main_cst_2
  let main_v12 : FVec F S7 .f32 := addf main_v11 main_v10
  let main_v13 : FVec F S64x1024x64 .f32 := Host.absf main_arg0
  let main_v14 : FVec F S64x1024x64x1 .f32 := broadcastInDim S64x1024x64x1 ![0, 1, 2] bcast_S64x1024x64_S64x1024x64x1_0_1_2 main_v13
  let main_v15 : FVec F S7 .f32 := id main_v12
  let main_v16 : FVec F S1x1x1x7 .f32 := broadcastInDim S1x1x1x7 ![3] bcast_S7_S1x1x1x7_3 main_v15
  let main_v17 : FVec F S64x1024x64x7 .f32 := broadcastInDim S64x1024x64x7 ![0, 1, 2, 3] bcast_S64x1024x64x1_S64x1024x64x7_0_1_2_3 main_v14
  let main_v18 : FVec F S64x1024x64x7 .f32 := broadcastInDim S64x1024x64x7 ![0, 1, 2, 3] bcast_S1x1x1x7_S64x1024x64x7_0_1_2_3 main_v16
  fn_part1 (F := F) main_v2 main_v17 main_v18
-- ==== Kernel.lean ====
abbrev S64x1024x64 : Shape := ⟨3, ![64, 1024, 64]⟩
abbrev S128x64 : Shape := ⟨2, ![128, 64]⟩
abbrev S_ : Shape := ⟨0, ![]⟩
abbrev S1x128x64 : Shape := ⟨3, ![1, 128, 64]⟩
abbrev S1x16 : Shape := ⟨2, ![1, 16]⟩
abbrev S16 : Shape := ⟨1, ![16]⟩

abbrev nBuf : Table → Nat
  | .hbm => 2
  | .local .scVector .vmem => 4
  | _ => 0

abbrev bufTy : (tb : Table) → Fin (nBuf tb) → BufTy
  | .hbm, ⟨0, _⟩ => ⟨S64x1024x64, .f32⟩
  | .hbm, ⟨1, _⟩ => ⟨S64x1024x64, .f32⟩
  | .local .scVector .vmem, ⟨0, _⟩ => ⟨S128x64, .f32⟩
  | .local .scVector .vmem, ⟨1, _⟩ => ⟨S128x64, .f32⟩
  | .local .scVector .vmem, ⟨2, _⟩ => ⟨S128x64, .f32⟩
  | .local .scVector .vmem, ⟨3, _⟩ => ⟨S128x64, .f32⟩
  | _, _ => ⟨S64x1024x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) (c0_i32_1 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c3_i32 : BitVec 32 := 3#32
  let v3 : BitVec 32 := Scalar.shrui c0_i32 c3_i32
  let v4 : BitVec 32 := Scalar.addi v2 v3
  let c7_i32 : BitVec 32 := 7#32
  let v5 : BitVec 32 := Scalar.andi c0_i32_1 c7_i32
  let c128_i32 : BitVec 32 := 128#32
  let v6 : BitVec 32 := Scalar.muli v5 c128_i32
  let c0_i32_2 : BitVec 32 := 0#32
  ![v4.toNat, v6.toNat, 0]
def k0_off1_at (r : Fin 4) : BitVec 32 × BitVec 32 :=
  if r.val < 2 then
    if r.val < 1 then
      (0#32, 0#32)
    else
      (1#32, 1#32)
  else
    if r.val < 3 then
      (14#32, 14#32)
    else
      (15#32, 15#32)
@[reducible] def k0_t1_loop : Scf.Loop 32 :=
  let c0_i32_12 : BitVec 32 := 0#32
  let c8_i32 : BitVec 32 := 8#32
  let v20 : BitVec 32 := Scalar.addi c0_i32_12 c8_i32
  let c1_i32_13 : BitVec 32 := 1#32
  ⟨c0_i32_12, v20, c1_i32_13⟩
def k0_off2 (i : grid0.Coords) (k0_t1 : Fin k0_t1_loop.trips) (c0_i32_30 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_31 : BitVec 32 := 2#32
  let v41 : BitVec 32 := Scalar.muli v1 c2_i32_31
  let c0_i32_12 : BitVec 32 := 0#32
  let c1_i32_13 : BitVec 32 := 1#32
  let arg12 : BitVec 32 := Scf.iv c0_i32_12 c1_i32_13 k0_t1
  let c2_i32_29 : BitVec 32 := 2#32
  let v39 : BitVec 32 := Scalar.muli arg12 c2_i32_29
  let v40 : BitVec 32 := Scalar.addi v39 c0_i32_30
  let c3_i32_32 : BitVec 32 := 3#32
  let v42 : BitVec 32 := Scalar.shrui v40 c3_i32_32
  let v43 : BitVec 32 := Scalar.addi v41 v42
  let c7_i32_33 : BitVec 32 := 7#32
  let v44 : BitVec 32 := Scalar.andi v40 c7_i32_33
  let c128_i32_34 : BitVec 32 := 128#32
  let v45 : BitVec 32 := Scalar.muli v44 c128_i32_34
  let c0_i32_35 : BitVec 32 := 0#32
  ![v43.toNat, v45.toNat, 0]
def k0_cond1 (k0_t1 : Fin k0_t1_loop.trips) : BitVec 1 :=
  let c0_i32_12 : BitVec 32 := 0#32
  let c1_i32_13 : BitVec 32 := 1#32
  let arg12 : BitVec 32 := Scf.iv c0_i32_12 c1_i32_13 k0_t1
  let c0_i32_37 : BitVec 32 := 0#32
  let v50 : BitVec 1 := Scalar.cmpi .sgt arg12 c0_i32_37
  let v51 : BitVec 32 := Scalar.extui v50
  let c0_i32_38 : BitVec 32 := 0#32
  let v52 : BitVec 1 := Scalar.cmpi .ne v51 c0_i32_38
  v52

def k0_off3 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_74 : BitVec 32 := 2#32
  let v93 : BitVec 32 := Scalar.muli v1 c2_i32_74
  let c0_i32_12 : BitVec 32 := 0#32
  let c1_i32_13 : BitVec 32 := 1#32
  let arg12 : BitVec 32 := Scf.iv c0_i32_12 c1_i32_13 k0_t1
  let c2_i32_29 : BitVec 32 := 2#32
  let v39 : BitVec 32 := Scalar.muli arg12 c2_i32_29
  let c0_i32_30 : BitVec 32 := 0#32
  let v40 : BitVec 32 := Scalar.addi v39 c0_i32_30
  let c3_i32_75 : BitVec 32 := 3#32
  let v94 : BitVec 32 := Scalar.shrui v40 c3_i32_75
  let v95 : BitVec 32 := Scalar.addi v93 v94
  let c7_i32_76 : BitVec 32 := 7#32
  let v96 : BitVec 32 := Scalar.andi v40 c7_i32_76
  let c128_i32_77 : BitVec 32 := 128#32
  let v97 : BitVec 32 := Scalar.muli v96 c128_i32_77
  let c0_i32_78 : BitVec 32 := 0#32
  ![v95.toNat, v97.toNat, 0]
@[reducible] def k0_t2_loop : Scf.Loop 32 :=
  let c0_i32_40 : BitVec 32 := 0#32
  let c64_i32 : BitVec 32 := 64#32
  let v53 : BitVec 32 := Scalar.addi c0_i32_40 c64_i32
  let c1_i32_41 : BitVec 32 := 1#32
  ⟨c0_i32_40, v53, c1_i32_41⟩
def k0_off4 (k0_t2 : Fin k0_t2_loop.trips) (c0_i32_75 : BitVec 32) : Fin 2 → Nat :=
  let c0_i32_40 : BitVec 32 := 0#32
  let c1_i32_41 : BitVec 32 := 1#32
  let arg13 : BitVec 32 := Scf.iv c0_i32_40 c1_i32_41 k0_t2
  let c2_i32_74 : BitVec 32 := 2#32
  let v93 : BitVec 32 := Scalar.muli arg13 c2_i32_74
  let v94 : BitVec 32 := Scalar.addi v93 c0_i32_75
  let v95 : Index := Scalar.indexCast v94
  let c0 : Index := 0#32
  ![v95.toNat, 0]
def k0_off5 (k0_t2 : Fin k0_t2_loop.trips) (c0_i32_89 : BitVec 32) : Fin 2 → Nat :=
  let c0_i32_40 : BitVec 32 := 0#32
  let c1_i32_41 : BitVec 32 := 1#32
  let arg13 : BitVec 32 := Scf.iv c0_i32_40 c1_i32_41 k0_t2
  let c2_i32_88 : BitVec 32 := 2#32
  let v128 : BitVec 32 := Scalar.muli arg13 c2_i32_88
  let v129 : BitVec 32 := Scalar.addi v128 c0_i32_89
  let v130 : Index := Scalar.indexCast v129
  let c16 : Index := 16#32
  ![v130.toNat, 16]
def k0_off6 (k0_t2 : Fin k0_t2_loop.trips) (c0_i32_104 : BitVec 32) : Fin 2 → Nat :=
  let c0_i32_40 : BitVec 32 := 0#32
  let c1_i32_41 : BitVec 32 := 1#32
  let arg13 : BitVec 32 := Scf.iv c0_i32_40 c1_i32_41 k0_t2
  let c2_i32_103 : BitVec 32 := 2#32
  let v163 : BitVec 32 := Scalar.muli arg13 c2_i32_103
  let v164 : BitVec 32 := Scalar.addi v163 c0_i32_104
  let v165 : Index := Scalar.indexCast v164
  let c32 : Index := 32#32
  ![v165.toNat, 32]
def k0_off7 (k0_t2 : Fin k0_t2_loop.trips) (c0_i32_119 : BitVec 32) : Fin 2 → Nat :=
  let c0_i32_40 : BitVec 32 := 0#32
  let c1_i32_41 : BitVec 32 := 1#32
  let arg13 : BitVec 32 := Scf.iv c0_i32_40 c1_i32_41 k0_t2
  let c2_i32_118 : BitVec 32 := 2#32
  let v198 : BitVec 32 := Scalar.muli arg13 c2_i32_118
  let v199 : BitVec 32 := Scalar.addi v198 c0_i32_119
  let v200 : Index := Scalar.indexCast v199
  let c48 : Index := 48#32
  ![v200.toNat, 48]
def k0_cond2 (k0_t1 : Fin k0_t1_loop.trips) : BitVec 1 :=
  let c0_i32_12 : BitVec 32 := 0#32
  let c1_i32_13 : BitVec 32 := 1#32
  let arg12 : BitVec 32 := Scf.iv c0_i32_12 c1_i32_13 k0_t1
  let c7_i32_49 : BitVec 32 := 7#32
  let v63 : BitVec 1 := Scalar.cmpi .slt arg12 c7_i32_49
  let v64 : BitVec 32 := Scalar.extui v63
  let c0_i32_50 : BitVec 32 := 0#32
  let v65 : BitVec 1 := Scalar.cmpi .ne v64 c0_i32_50
  v65

def k0_off8 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_75 : BitVec 32 := 2#32
  let v94 : BitVec 32 := Scalar.muli v1 c2_i32_75
  let c0_i32_12 : BitVec 32 := 0#32
  let c1_i32_13 : BitVec 32 := 1#32
  let arg12 : BitVec 32 := Scf.iv c0_i32_12 c1_i32_13 k0_t1
  let c2_i32_29 : BitVec 32 := 2#32
  let v39 : BitVec 32 := Scalar.muli arg12 c2_i32_29
  let c0_i32_30 : BitVec 32 := 0#32
  let v40 : BitVec 32 := Scalar.addi v39 c0_i32_30
  let c2_i32_74 : BitVec 32 := 2#32
  let v93 : BitVec 32 := Scalar.addi v40 c2_i32_74
  let c3_i32_76 : BitVec 32 := 3#32
  let v95 : BitVec 32 := Scalar.shrui v93 c3_i32_76
  let v96 : BitVec 32 := Scalar.addi v94 v95
  let c7_i32_77 : BitVec 32 := 7#32
  let v97 : BitVec 32 := Scalar.andi v93 c7_i32_77
  let c128_i32_78 : BitVec 32 := 128#32
  let v98 : BitVec 32 := Scalar.muli v97 c128_i32_78
  let c0_i32_79 : BitVec 32 := 0#32
  ![v96.toNat, v98.toNat, 0]
def k0_cond3 (k0_t1 : Fin k0_t1_loop.trips) : BitVec 1 :=
  let c0_i32_12 : BitVec 32 := 0#32
  let c1_i32_13 : BitVec 32 := 1#32
  let arg12 : BitVec 32 := Scf.iv c0_i32_12 c1_i32_13 k0_t1
  let c0_i32_59 : BitVec 32 := 0#32
  let v77 : BitVec 1 := Scalar.cmpi .sgt arg12 c0_i32_59
  let v78 : BitVec 32 := Scalar.extui v77
  let c0_i32_60 : BitVec 32 := 0#32
  let v79 : BitVec 1 := Scalar.cmpi .ne v78 c0_i32_60
  v79

def k0_off9 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_74 : BitVec 32 := 2#32
  let v93 : BitVec 32 := Scalar.muli v1 c2_i32_74
  let c0_i32_12 : BitVec 32 := 0#32
  let c1_i32_13 : BitVec 32 := 1#32
  let arg12 : BitVec 32 := Scf.iv c0_i32_12 c1_i32_13 k0_t1
  let c2_i32_51 : BitVec 32 := 2#32
  let v66 : BitVec 32 := Scalar.muli arg12 c2_i32_51
  let c1_i32_52 : BitVec 32 := 1#32
  let v67 : BitVec 32 := Scalar.addi v66 c1_i32_52
  let c3_i32_75 : BitVec 32 := 3#32
  let v94 : BitVec 32 := Scalar.shrui v67 c3_i32_75
  let v95 : BitVec 32 := Scalar.addi v93 v94
  let c7_i32_76 : BitVec 32 := 7#32
  let v96 : BitVec 32 := Scalar.andi v67 c7_i32_76
  let c128_i32_77 : BitVec 32 := 128#32
  let v97 : BitVec 32 := Scalar.muli v96 c128_i32_77
  let c0_i32_78 : BitVec 32 := 0#32
  ![v95.toNat, v97.toNat, 0]
@[reducible] def k0_t3_loop : Scf.Loop 32 :=
  let c0_i32_62 : BitVec 32 := 0#32
  let c64_i32_63 : BitVec 32 := 64#32
  let v80 : BitVec 32 := Scalar.addi c0_i32_62 c64_i32_63
  let c1_i32_64 : BitVec 32 := 1#32
  ⟨c0_i32_62, v80, c1_i32_64⟩
def k0_off10 (k0_t3 : Fin k0_t3_loop.trips) (c0_i32_75 : BitVec 32) : Fin 2 → Nat :=
  let c0_i32_62 : BitVec 32 := 0#32
  let c1_i32_64 : BitVec 32 := 1#32
  let arg13 : BitVec 32 := Scf.iv c0_i32_62 c1_i32_64 k0_t3
  let c2_i32_74 : BitVec 32 := 2#32
  let v93 : BitVec 32 := Scalar.muli arg13 c2_i32_74
  let v94 : BitVec 32 := Scalar.addi v93 c0_i32_75
  let v95 : Index := Scalar.indexCast v94
  let c0 : Index := 0#32
  ![v95.toNat, 0]
def k0_off11 (k0_t3 : Fin k0_t3_loop.trips) (c0_i32_89 : BitVec 32) : Fin 2 → Nat :=
  let c0_i32_62 : BitVec 32 := 0#32
  let c1_i32_64 : BitVec 32 := 1#32
  let arg13 : BitVec 32 := Scf.iv c0_i32_62 c1_i32_64 k0_t3
  let c2_i32_88 : BitVec 32 := 2#32
  let v128 : BitVec 32 := Scalar.muli arg13 c2_i32_88
  let v129 : BitVec 32 := Scalar.addi v128 c0_i32_89
  let v130 : Index := Scalar.indexCast v129
  let c16 : Index := 16#32
  ![v130.toNat, 16]
def k0_off12 (k0_t3 : Fin k0_t3_loop.trips) (c0_i32_104 : BitVec 32) : Fin 2 → Nat :=
  let c0_i32_62 : BitVec 32 := 0#32
  let c1_i32_64 : BitVec 32 := 1#32
  let arg13 : BitVec 32 := Scf.iv c0_i32_62 c1_i32_64 k0_t3
  let c2_i32_103 : BitVec 32 := 2#32
  let v163 : BitVec 32 := Scalar.muli arg13 c2_i32_103
  let v164 : BitVec 32 := Scalar.addi v163 c0_i32_104
  let v165 : Index := Scalar.indexCast v164
  let c32 : Index := 32#32
  ![v165.toNat, 32]
def k0_off13 (k0_t3 : Fin k0_t3_loop.trips) (c0_i32_119 : BitVec 32) : Fin 2 → Nat :=
  let c0_i32_62 : BitVec 32 := 0#32
  let c1_i32_64 : BitVec 32 := 1#32
  let arg13 : BitVec 32 := Scf.iv c0_i32_62 c1_i32_64 k0_t3
  let c2_i32_118 : BitVec 32 := 2#32
  let v198 : BitVec 32 := Scalar.muli arg13 c2_i32_118
  let v199 : BitVec 32 := Scalar.addi v198 c0_i32_119
  let v200 : Index := Scalar.indexCast v199
  let c48 : Index := 48#32
  ![v200.toNat, 48]
def k0_cond4 (k0_t1 : Fin k0_t1_loop.trips) : BitVec 1 :=
  let c0_i32_12 : BitVec 32 := 0#32
  let c1_i32_13 : BitVec 32 := 1#32
  let arg12 : BitVec 32 := Scf.iv c0_i32_12 c1_i32_13 k0_t1
  let c7_i32_72 : BitVec 32 := 7#32
  let v90 : BitVec 1 := Scalar.cmpi .slt arg12 c7_i32_72
  let v91 : BitVec 32 := Scalar.extui v90
  let c0_i32_73 : BitVec 32 := 0#32
  let v92 : BitVec 1 := Scalar.cmpi .ne v91 c0_i32_73
  v92

def k0_off14 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_75 : BitVec 32 := 2#32
  let v94 : BitVec 32 := Scalar.muli v1 c2_i32_75
  let c0_i32_12 : BitVec 32 := 0#32
  let c1_i32_13 : BitVec 32 := 1#32
  let arg12 : BitVec 32 := Scf.iv c0_i32_12 c1_i32_13 k0_t1
  let c2_i32_51 : BitVec 32 := 2#32
  let v66 : BitVec 32 := Scalar.muli arg12 c2_i32_51
  let c1_i32_52 : BitVec 32 := 1#32
  let v67 : BitVec 32 := Scalar.addi v66 c1_i32_52
  let c2_i32_74 : BitVec 32 := 2#32
  let v93 : BitVec 32 := Scalar.addi v67 c2_i32_74
  let c3_i32_76 : BitVec 32 := 3#32
  let v95 : BitVec 32 := Scalar.shrui v93 c3_i32_76
  let v96 : BitVec 32 := Scalar.addi v94 v95
  let c7_i32_77 : BitVec 32 := 7#32
  let v97 : BitVec 32 := Scalar.andi v93 c7_i32_77
  let c128_i32_78 : BitVec 32 := 128#32
  let v98 : BitVec 32 := Scalar.muli v97 c128_i32_78
  let c0_i32_79 : BitVec 32 := 0#32
  ![v96.toNat, v98.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "step" => some ((2 / 15 : ℝ) : EReal)
  | _ => none
-- ==== ReferenceIdeal.lean ====
abbrev S64x1024x64 : Shape := ⟨3, ![64, 1024, 64]⟩
abbrev S_ : Shape := ⟨0, ![]⟩
abbrev S15 : Shape := ⟨1, ![15]⟩
abbrev S1 : Shape := ⟨1, ![1]⟩
abbrev S16 : Shape := ⟨1, ![16]⟩
abbrev S4194304x1 : Shape := ⟨2, ![4194304, 1]⟩
abbrev S1x16 : Shape := ⟨2, ![1, 16]⟩
abbrev S4194304x16 : Shape := ⟨2, ![4194304, 16]⟩
abbrev S4194304 : Shape := ⟨1, ![4194304]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S_, .f32⟩
  | .hbm, ⟨3, _⟩ => ⟨S64x1024x64, .f32⟩
  | .hbm, ⟨4, _⟩ => ⟨S64x1024x64, .i1⟩
  | .hbm, ⟨5, _⟩ => ⟨S64x1024x64, .f32⟩
  | .hbm, ⟨6, _⟩ => ⟨S64x1024x64, .f32⟩
  | .hbm, ⟨7, _⟩ => ⟨S_, .f32⟩
  | .hbm, ⟨8, _⟩ => ⟨S64x1024x64, .f32⟩
  | .hbm, ⟨9, _⟩ => ⟨S64x1024x64, .f32⟩
  | .hbm, ⟨10, _⟩ => ⟨S64x1024x64, .f32⟩
  | .hbm, ⟨11, _⟩ => ⟨S64x1024x64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S15, .f32⟩
  | .hbm, ⟨20, _⟩ => ⟨S_, .f32⟩
  | .hbm, ⟨21, _⟩ => ⟨S15, .f32⟩
  | .hbm, ⟨22, _⟩ => ⟨S15, .f32⟩
  | .hbm, ⟨23, _⟩ => ⟨S1, .f32⟩
  | .hbm, ⟨24, _⟩ => ⟨S_, .f32⟩
  | .hbm, ⟨25, _⟩ => ⟨S15, .f32⟩
  | .hbm, ⟨26, _⟩ => ⟨S15, .f32⟩
  | .hbm, ⟨27, _⟩ => ⟨S15, .f32⟩
  | .hbm, ⟨28, _⟩ => ⟨S15, .f32⟩
  | .hbm, ⟨29, _⟩ => ⟨S1, .f32⟩
  | .hbm, ⟨30, _⟩ => ⟨S15, .f32⟩
  | .hbm, ⟨31, _⟩ => ⟨S15, .f32⟩
  | .hbm, ⟨32, _⟩ => ⟨S15, .f32⟩
  | .hbm, ⟨33, _⟩ => ⟨S1, .f32⟩
  | .hbm, ⟨34, _⟩ => ⟨S16, .f32⟩
  | .hbm, ⟨35, _⟩ => ⟨S4194304x1, .f32⟩
  | .hbm, ⟨36, _⟩ => ⟨S1x16, .f32⟩
  | .hbm, ⟨37, _⟩ => ⟨S4194304x16, .f32⟩
  | .hbm, ⟨38, _⟩ => ⟨S4194304x16, .f32⟩
  | .hbm, ⟨39, _⟩ => ⟨S4194304x16, .f32⟩
  | .hbm, ⟨40, _⟩ => ⟨S4194304x16, .f32⟩
  | .hbm, ⟨41, _⟩ => ⟨S4194304x16, .i32⟩
  | .hbm, ⟨42, _⟩ => ⟨S_, .f32⟩
  | .hbm, ⟨43, _⟩ => ⟨S_, .i32⟩
  | .hbm, ⟨44, _⟩ => ⟨S4194304, .f32⟩
  | .hbm, ⟨45, _⟩ => ⟨S4194304, .i32⟩
  | .hbm, ⟨46, _⟩ => ⟨S_, .i32⟩
  | .hbm, ⟨47, _⟩ => ⟨S4194304, .i32⟩
  | .hbm, ⟨48, _⟩ => ⟨S4194304, .i1⟩
  | .hbm, ⟨49, _⟩ => ⟨S_, .i32⟩
  | .hbm, ⟨50, _⟩ => ⟨S4194304, .i32⟩
  | .hbm, ⟨51, _⟩ => ⟨S4194304, .i32⟩
  | .hbm, ⟨52, _⟩ => ⟨S4194304, .i32⟩
  | .hbm, ⟨53, _⟩ => ⟨S4194304x1, .i32⟩
  | .hbm, ⟨54, _⟩ => ⟨S1, .i32⟩
  | .hbm, ⟨55, _⟩ => ⟨S_, .i32⟩
  | .hbm, ⟨56, _⟩ => ⟨S4194304x1, .i32⟩
  | .hbm, ⟨57, _⟩ => ⟨S4194304x1, .i1⟩
  | .hbm, ⟨58, _⟩ => ⟨S1x1, .i32⟩
  | .hbm, ⟨59, _⟩ => ⟨S4194304x1, .i32⟩
  | .hbm, ⟨60, _⟩ => ⟨S4194304x1, .i1⟩
  | .hbm, ⟨61, _⟩ => ⟨S4194304x1, .i1⟩
  | .hbm, ⟨62, _⟩ => ⟨S_, .i1⟩
  | .hbm, ⟨63, _⟩ => ⟨S4194304, .i1⟩
  | .hbm, ⟨64, _⟩ => ⟨S4194304, .f32⟩
  | .hbm, ⟨65, _⟩ => ⟨S_, .f32⟩
  | .hbm, ⟨66, _⟩ => ⟨S4194304, .f32⟩
  | .hbm, ⟨67, _⟩ => ⟨S4194304, .f32⟩
  | .hbm, ⟨68, _⟩ => ⟨S64x1024x64, .f32⟩
  | .hbm, ⟨69, _⟩ => ⟨S64x1024x64, .f32⟩
  | .hbm, ⟨70, _⟩ => ⟨S_, .f32⟩
  | .hbm, ⟨71, _⟩ => ⟨S64x1024x64, .f32⟩
  | .hbm, ⟨72, _⟩ => ⟨S64x1024x64, .i1⟩
  | .hbm, ⟨73, _⟩ => ⟨S_, .f32⟩
  | .hbm, ⟨74, _⟩ => ⟨S64x1024x64, .f32⟩
  | .hbm, ⟨75, _⟩ => ⟨S64x1024x64, .f32⟩
  | .hbm, ⟨76, _⟩ => ⟨S64x1024x64, .f32⟩
  | .hbm, ⟨77, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_cst : Ref sig .tc := ⟨.hbm, 17, rfl⟩
abbrev main_call0_v3 : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call1_v0 : Ref sig .tc := ⟨.hbm, 41, rfl⟩
abbrev main_call1_cst : Ref sig .tc := ⟨.hbm, 42, rfl⟩
abbrev main_call1_c : Ref sig .tc := ⟨.hbm, 43, rfl⟩
abbrev main_call1_v1_0 : Ref sig .tc := ⟨.hbm, 44, rfl⟩
abbrev main_v16 : Ref sig .tc := ⟨.hbm, 45, rfl⟩
abbrev main_call2_c : Ref sig .tc := ⟨.hbm, 46, rfl⟩
abbrev main_call2_v0 : Ref sig .tc := ⟨.hbm, 47, rfl⟩
abbrev main_call2_v1 : Ref sig .tc := ⟨.hbm, 48, rfl⟩
abbrev main_call2_c_0 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c_1 : Ref sig .tc := ⟨.hbm, 54, rfl⟩
abbrev main_call2_c_2 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_call2_c_3 : Ref sig .tc := ⟨.hbm, 62, rfl⟩
abbrev main_call2_v12 : Ref sig .tc := ⟨.hbm, 63, rfl⟩
abbrev main_call2_v13 : Ref sig .tc := ⟨.hbm, 64, rfl⟩
abbrev main_call2_cst : Ref sig .tc := ⟨.hbm, 65, rfl⟩
abbrev main_call2_v14 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_cst_3 : Ref sig .tc := ⟨.hbm, 70, rfl⟩
abbrev main_v20 : Ref sig .tc := ⟨.hbm, 71, rfl⟩
abbrev main_v21 : Ref sig .tc := ⟨.hbm, 72, rfl⟩
abbrev main_cst_4 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩

abbrev nD : Nat := 1
abbrev τ : Topo := Topo.v7x

variable {F : FTy → Type} [FloatOps F]
-- ==== Proof.Elem.lean ====
/- The one scalar function the kernel applies to every element, and the fact that each vector the kernel stores is
   that function applied lane by lane to the vector it loaded. -/
module

public import proofs.«01_k».proof.Defs
public import proofs.«01_k».proof.Proof.Gen.KernelIdeal
public import proofs.«01_k».proof.Proof.Gen.KernelIdeal.Skeleton
public import Idealize.ShloMosaic.Lib.Pipeline.Value

@[expose] public section

noncomputable section

namespace Cert.Proof

open Cert.KernelIdeal Cert.KernelIdeal.Gen
open Idealize.ShloMosaic

variable {F : FTy → Type} [FloatOps F] [Named F]

/-- The residue of an element after it is clipped to plus or minus a tenth. -/
def shrunk (x : F .f32) : F .f32 :=
  FloatOps.subf x (FloatOps.minimumf (Scalar.ofBits .f32 0x3DCCCCCD#32) (FloatOps.maximumf (Scalar.ofBits .f32 0xBDCCCCCD#32) x))

/-- The level number of a residue, as a 32-bit word: scaled to level units, offset, clipped and truncated. -/
def level (s : F .f32) : BitVec 32 :=
  FloatOps.fptosi 32 (FloatOps.minimumf (Scalar.ofBits .f32 0x41780000#32) (FloatOps.maximumf (Scalar.ofBits .f32 0x3F000000#32)
    (FloatOps.addf (FloatOps.mulf s (Scalar.ofBits .f32 0x40F00000#32)) (Scalar.ofBits .f32 0x41000000#32))))

/-- The codebook value of a residue, zero where the residue is tiny. -/
def quantized (s : F .f32) : F .f32 :=
  Scalar.select (FloatOps.cmpf .olt (FloatOps.absf s) (Scalar.ofBits .f32 0x358637BD#32)) (Scalar.ofBits .f32 0x00000000#32)
    (FloatOps.subf (FloatOps.mulf (FloatOps.sitofp .f32 (level s)) (Named.named κ "step" 0x3E088889#32)) (Scalar.ofBits .f32 0x3F800000#32))

/-- What the kernel computes of one element. -/
def elem (x : F .f32) : F .f32 := quantized (shrunk x)

/-- A vector of sixteen lanes taken out of a one-row block, mapped lane by lane and put back, is the block mapped. -/
theorem lanes_map (g : F .f32 → F .f32) (v : Vec F S1x16 .f32) :
    shapeCast S1x16 (fun i => g (shapeCast S16 v shapeCasts_S1x16_S16 i)) shapeCasts_S16_S1x16 = fun x => g (v x) := by
  have h := shapeCast_shapeCast v shapeCasts_S1x16_S16 shapeCasts_S16_S1x16
  funext x
  exact congrArg g (congrFun h x)

/-! ## The vectors stored in the first output buffer -/

theorem row0_col0 (v : Vec F S1x16 .f32) : k0_pay1 v = fun x => elem (v x) := lanes_map elem v
theorem row0_col16 (v : Vec F S1x16 .f32) : k0_pay2 v = fun x => elem (v x) := lanes_map elem v
theorem row0_col32 (v : Vec F S1x16 .f32) : k0_pay4 (k0_pay3 v) = fun x => elem (v x) := lanes_map elem v
theorem row0_col48 (v : Vec F S1x16 .f32) :
    k0_pay7 (k0_pay5 v) (k0_pay6 v) (Scalar.ofBits .f32 0x3F000000#32) (Scalar.ofBits .f32 0x41780000#32) = fun x => elem (v x) := lanes_map elem v
theorem row1_col0 (v : Vec F S1x16 .f32) : k0_pay11 (k0_pay8 v) (k0_pay9 v) k0_pay10 = fun x => elem (v x) := lanes_map elem v
theorem row1_col16 (v : Vec F S1x16 .f32) : k0_pay15 (k0_pay13 v) (k0_pay14 v) = fun x => elem (v x) := lanes_map elem v
theorem row1_col32 (v : Vec F S1x16 .f32) : k0_pay17 (k0_pay16 v) = fun x => elem (v x) := lanes_map elem v
theorem row1_col48 (v : Vec F S1x16 .f32) : k0_pay37 (k0_pay18 v) = fun x => elem (v x) := lanes_map elem v

/-! ## The vectors stored in the second output buffer -/

theorem row0_col0' (v : Vec F S1x16 .f32) : k0_pay19 v = fun x => elem (v x) := lanes_map elem v
theorem row0_col16' (v : Vec F S1x16 .f32) : k0_pay20 v = fun x => elem (v x) := lanes_map elem v
theorem row0_col32' (v : Vec F S1x16 .f32) : k0_pay22 (k0_pay21 v) = fun x => elem (v x) := lanes_map elem v
theorem row0_col48' (v : Vec F S1x16 .f32) :
    k0_pay25 (k0_pay23 v) (k0_pay24 v) (Scalar.ofBits .f32 0x3F000000#32) (Scalar.ofBits .f32 0x41780000#32) = fun x => elem (v x) := lanes_map elem v
theorem row1_col0' (v : Vec F S1x16 .f32) : k0_pay29 (k0_pay26 v) (k0_pay27 v) k0_pay28 = fun x => elem (v x) := lanes_map elem v
theorem row1_col16' (v : Vec F S1x16 .f32) : k0_pay33 (k0_pay31 v) (k0_pay32 v) = fun x => elem (v x) := lanes_map elem v
theorem row1_col32' (v : Vec F S1x16 .f32) : k0_pay35 (k0_pay34 v) = fun x => elem (v x) := lanes_map elem v
theorem row1_col48' (v : Vec F S1x16 .f32) : k0_pay38 (k0_pay36 v) = fun x => elem (v x) := lanes_map elem v

end Cert.Proof

end
-- ==== Proof.Layout.lean ====
/- The kernel as the launch sees it, and how its two arrays are cut: the sixteen chunks of 128 rows that each
   subcore moves, named by the subcore's place and the chunk's number. -/
module

public import proofs.«01_k».proof.Proof.Elem
public import Idealize.ShloMosaic.Lib.SparseCore.Quiescent
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch's parts -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds beside the transfers' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-- The argument and the result, as locations of a device. -/
abbrev xLoc (d : Dev nD) : Loc nD τ sig := (SparseCore.T d).loc main_arg0
abbrev oLoc (d : Dev nD) : Loc nD τ sig := (SparseCore.T d).loc main_v0

-- the six memrefs the kernel is called with
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)

/-! ## The chunks -/

/-- Where chunk `n` of the subcore at `L` starts: two slabs to a subcore, eight chunks to a slab. -/
def start (L : grid0.Coords) (n : ℕ) : Fin 3 → Nat := ![2 * (2 * (L 1).val + (L 0).val) + n / 8, 128 * (n % 8), 0]

theorem start_inb (L : grid0.Coords) {n : ℕ} (hn : n < 16) : ∀ a, start L n a + S1x128x64.size a ≤ S64x1024x64.size a := by
  have h0 : (L 0).val < 2 := (L 0).isLt
  have h1 : (L 1).val < 16 := (L 1).isLt
  intro a
  match a with
  | 0 => show 2 * (2 * (L 1).val + (L 0).val) + n / 8 + 1 ≤ 64; omega
  | 1 => show 128 * (n % 8) + 128 ≤ 1024; omega
  | 2 => show 0 + 64 ≤ 64; omega

/-- A block of 128 rows of the argument and of the result from offset `o`, as the kernel names it. -/
abbrev xAt (o : Fin 3 → Nat) (h : ∀ a, o a + S1x128x64.size a ≤ S64x1024x64.size a) : Memref sig .scVector .hbm S128x64 .f32 :=
  ((xV).slice (Rect.unit (s := S64x1024x64) o S1x128x64.size h) (fun _ => rfl)).squeeze S128x64 squeezes_S1x128x64_S128x64
abbrev oAt (o : Fin 3 → Nat) (h : ∀ a, o a + S1x128x64.size a ≤ S64x1024x64.size a) : Memref sig .scVector .hbm S128x64 .f32 :=
  ((oV).slice (Rect.unit (s := S64x1024x64) o S1x128x64.size h) (fun _ => rfl)).squeeze S128x64 squeezes_S1x128x64_S128x64

/-- Chunk `n` of the subcore at `L`, in the argument and in the result. -/
abbrev xChunk (L : grid0.Coords) (n : Fin 16) : Memref sig .scVector .hbm S128x64 .f32 := xAt (start L n.val) (start_inb L n.isLt)
abbrev oChunk (L : grid0.Coords) (n : Fin 16) : Memref sig .scVector .hbm S128x64 .f32 := oAt (start L n.val) (start_inb L n.isLt)

/-- The places of a chunk. -/
def chunk (L : grid0.Coords) (n : Fin 16) : Finset S64x1024x64.Idx :=
  Finset.univ.filter fun j => (j 0).val = start L n.val 0 ∧ (j 1).val / 128 = n.val % 8

theorem mem_chunk {L : grid0.Coords} {n : Fin 16} {j : S64x1024x64.Idx} :
    j ∈ chunk L n ↔ (j 0).val = 2 * (2 * (L 1).val + (L 0).val) + n.val / 8 ∧ (j 1).val / 128 = n.val % 8 := by
  exact Finset.mem_filter.trans ⟨fun h => h.2, fun h => ⟨Finset.mem_univ _, h⟩⟩

theorem mem_block (L : grid0.Coords) (n : Fin 16) (j : S64x1024x64.Idx) :
    j ∈ (Rect.unit (s := S64x1024x64) (start L n.val) S1x128x64.size (start_inb L n.isLt)).set ↔ j ∈ chunk L n := by
  rw [Rect.mem_set_unit, mem_chunk]
  have hj2 : (j 2).val < 64 := (j 2).isLt
  constructor
  · intro h
    have h0 : 2 * (2 * (L 1).val + (L 0).val) + n.val / 8 ≤ (j 0).val ∧ (j 0).val < 2 * (2 * (L 1).val + (L 0).val) + n.val / 8 + 1 := h 0
    have h1 : 128 * (n.val % 8) ≤ (j 1).val ∧ (j 1).val < 128 * (n.val % 8) + 128 := h 1
    exact ⟨by omega, by omega⟩
  · rintro ⟨e0, e1⟩ a
    match a with
    | 0 =>
      show 2 * (2 * (L 1).val + (L 0).val) + n.val / 8 ≤ (j 0).val ∧ (j 0).val < 2 * (2 * (L 1).val + (L 0).val) + n.val / 8 + 1
      omega
    | 1 => show 128 * (n.val % 8) ≤ (j 1).val ∧ (j 1).val < 128 * (n.val % 8) + 128; omega
    | 2 => exact ⟨Nat.zero_le _, by show (j 2).val < 0 + 64; omega⟩

theorem set_xChunk (L : grid0.Coords) (n : Fin 16) : (xChunk L n).view.set = chunk L n := by
  show ((((xV).view.slice (Rect.unit (s := S64x1024x64) (start L n.val) S1x128x64.size (start_inb L n.isLt))).reshape S128x64 squeezes_S1x128x64_S128x64.numel_eq).set) = _
  rw [View.set_reshape]
  show ((View.whole (main_arg0_scv : Ref sig .scVector)).slice _).set = _
  rw [View.set_slice]
  refine (Finset.map_refl).trans ?_
  ext j; exact mem_block L n j
theorem set_oChunk (L : grid0.Coords) (n : Fin 16) : (oChunk L n).view.set = chunk L n := by
  show ((((oV).view.slice (Rect.unit (s := S64x1024x64) (start L n.val) S1x128x64.size (start_inb L n.isLt))).reshape S128x64 squeezes_S1x128x64_S128x64.numel_eq).set) = _
  rw [View.set_reshape]
  show ((View.whole (main_v0_scv : Ref sig .scVector)).slice _).set = _
  rw [View.set_slice]
  refine (Finset.map_refl).trans ?_
  ext j; exact mem_block L n j

/-! ## The offsets the program computes -/

theorem off_first : ∀ L : grid0.Coords, k0_off1 L 0#32 0#32 = start L 0 := by decide +kernel
theorem off_second : ∀ L : grid0.Coords, k0_off1 L 1#32 1#32 = start L 1 := by decide +kernel
theorem off_now : ∀ (L : grid0.Coords) (p : Fin k0_t1_loop.trips), k0_off2 L p 0#32 = start L (2 * p.val) := by decide +kernel
theorem off_now' : ∀ (L : grid0.Coords) (p : Fin k0_t1_loop.trips), k0_off2 L p 1#32 = start L (2 * p.val + 1) := by decide +kernel
theorem off_next : ∀ (L : grid0.Coords) (p : Fin k0_t1_loop.trips), k0_cond2 p = 1#1 → k0_off8 L p = start L (2 * p.val + 2) := by decide +kernel
theorem off_next' : ∀ (L : grid0.Coords) (p : Fin k0_t1_loop.trips), k0_cond4 p = 1#1 → k0_off14 L p = start L (2 * p.val + 3) := by decide +kernel
theorem later_iff : ∀ p : Fin k0_t1_loop.trips, k0_cond1 p = 1#1 ↔ 0 < p.val := by decide +kernel
theorem later_iff' : ∀ p : Fin k0_t1_loop.trips, k0_cond3 p = 1#1 ↔ 0 < p.val := by decide +kernel
theorem more_iff : ∀ p : Fin k0_t1_loop.trips, k0_cond2 p = 1#1 ↔ p.val < 7 := by decide +kernel
theorem more_iff' : ∀ p : Fin k0_t1_loop.trips, k0_cond4 p = 1#1 ↔ p.val < 7 := by decide +kernel
theorem trips_pairs : k0_t1_loop.trips = 8 := by decide +kernel
theorem trips_rows : k0_t2_loop.trips = 64 := by decide +kernel
theorem trips_rows' : k0_t3_loop.trips = 64 := by decide +kernel

end Cert.Proof

end
-- ==== Proof.Rows.lean ====
/- One block of 128 rows, computed: the two counted loops that fill an output buffer from an input buffer, each trip
   writing two rows of four sixteen-lane vectors. -/
module

public import proofs.«01_k».proof.Proof.Layout

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)
local notation "inA" => (Memref.whole Cert.KernelIdeal.cc0_scratch0 : Memref Cert.KernelIdeal.sig Kind.scVector Space.vmem Cert.KernelIdeal.S128x64 EltTy.f32)
local notation "inB" => (Memref.whole Cert.KernelIdeal.cc0_scratch1 : Memref Cert.KernelIdeal.sig Kind.scVector Space.vmem Cert.KernelIdeal.S128x64 EltTy.f32)
local notation "outA" => (Memref.whole Cert.KernelIdeal.cc0_scratch2 : Memref Cert.KernelIdeal.sig Kind.scVector Space.vmem Cert.KernelIdeal.S128x64 EltTy.f32)
local notation "outB" => (Memref.whole Cert.KernelIdeal.cc0_scratch3 : Memref Cert.KernelIdeal.sig Kind.scVector Space.vmem Cert.KernelIdeal.S128x64 EltTy.f32)

variable (d : Dev nD) (L : grid0.Coords)

/-- The SparseCore and the subcore of a place in the kernel's grid. -/
abbrev coreOf (L : grid0.Coords) : Fin τ.nSC := (L 0).castLE hcore0
abbrev subOf (L : grid0.Coords) : Fin τ.nSub := (L 1).castLE hsub0
abbrev thr (d : Dev nD) (L : grid0.Coords) : Thread nD τ := V d (coreOf L) (subOf L)

/-- The rows below a number are done: they hold the kernel's function of the block taken in. -/
def Done (n : ℕ) (f g : S128x64.Idx → F .f32) : Prop := ∀ y : S128x64.Idx, (y 0).val < n → g y = elem (f y)

/-- Sixteen lanes of one row: the elements of the piece standing there. -/
theorem mem_piece {o : Fin 2 → ℕ} {inb : ∀ a, o a + S1x16.size a ≤ S128x64.size a} (r c : ℕ) (ho : o = ![r, c]) (y : S128x64.Idx) :
    Iff (y ∈ (Rect.unit (s := S128x64) o S1x16.size inb).set) ((y 0).val = r ∧ c ≤ (y 1).val ∧ (y 1).val < c + 16) := by
  subst ho
  rw [Rect.mem_set_unit]
  refine ⟨fun h => ?_, ?_⟩
  · have h0 := h 0
    have h1 := h 1
    simp at h0 h1
    omega
  · rintro ⟨h0, h1, h2⟩ a
    fin_cases a <;> simp <;> omega

/-- No element of another row is among them. -/
theorem not_mem_piece {o : Fin 2 → ℕ} {inb : ∀ a, o a + S1x16.size a ≤ S128x64.size a} (r c : ℕ) (ho : o = ![r, c]) (y : S128x64.Idx)
    (h : (y 0).val ≠ r) : y ∉ (Rect.unit (s := S128x64) o S1x16.size inb).set := fun hy => h ((mem_piece r c ho y).mp hy).1

/-- One trip fills two more rows of the output buffer. -/
theorem trip_A (f g : S128x64.Idx → F .f32) (k : Fin k0_t2_loop.trips) (v1 a b : BitVec 32) (p : Fin k0_t1_loop.trips) (hg : Done (2 * k.val) f g) :
    iprop(((inA).view.loc (thr d L) ↦{fullShare} f) ∗ ((outA).view.loc (thr d L) ↦{fullShare} g))
      ⊢ (wp frame (wpE (defs₀ (F := F)) 𝒱₀ (thr d L) none) Set.univ
          (k0_t2_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 a b p k ())
          fun _ => iprop(((inA).view.loc (thr d L) ↦{fullShare} f)
            ∗ ∃ g', ⌜Done (2 * k.val + 2) f g'⌝ ∗ ((outA).view.loc (thr d L) ↦{fullShare} g')) : sProp 𝕄) := by
  unfold k0_t2_body
  iintro ⟨Hi, Ho⟩
  sl_exec
  sl_step
  iframe Hi
  iexists _
  iframe Ho
  ipureintro
  intro y hy
  refine (congrFun (View.read_whole (Val := Elt F) cc0_scratch2 _) y).symm.trans ?_
  by_cases hlt : (y 0).val < 2 * k.val
  · refine (View.read_writes_apply_of_forall_not_mem (v := (outA).view) (Val := Elt F) (f := g) y _ ?_).trans (hg y hlt)
    intro p hp
    simp only [List.mem_cons, List.not_mem_nil, _root_.or_false, _root_.false_and, exists_false] at hp
    rcases hp with rfl | rfl | rfl | rfl | rfl | rfl | rfl | rfl
    · exact not_mem_piece (inb := k0_off7_inb k 1) (2 * k.val + 1) 48 (k0_off7_eq k 1) y (by omega)
    · exact not_mem_piece (inb := k0_off6_inb k 1) (2 * k.val + 1) 32 (k0_off6_eq k 1) y (by omega)
    · exact not_mem_piece (inb := k0_off5_inb k 1) (2 * k.val + 1) 16 (k0_off5_eq k 1) y (by omega)
    · exact not_mem_piece (inb := k0_off4_inb k 1) (2 * k.val + 1) 0 (k0_off4_eq k 1) y (by omega)
    · exact not_mem_piece (inb := k0_off7_inb k 0) (2 * k.val + 0) 48 (k0_off7_eq k 0) y (by omega)
    · exact not_mem_piece (inb := k0_off6_inb k 0) (2 * k.val + 0) 32 (k0_off6_eq k 0) y (by omega)
    · exact not_mem_piece (inb := k0_off5_inb k 0) (2 * k.val + 0) 16 (k0_off5_eq k 0) y (by omega)
    · exact not_mem_piece (inb := k0_off4_inb k 0) (2 * k.val + 0) 0 (k0_off4_eq k 0) y (by omega)
  · refine View.read_writes_apply_of_pieces (v := (outA).view) (Val := Elt F) (f := g) (fun y => elem (f y)) _ ?_ y ?_
    · intro p hp
      simp only [List.mem_cons, List.not_mem_nil, _root_.or_false, _root_.false_and, exists_false] at hp
      rcases hp with rfl | rfl | rfl | rfl | rfl | rfl | rfl | rfl
      · exact fun x => congrFun (row1_col48 _) x
      · exact fun x => congrFun (row1_col32 _) x
      · exact fun x => congrFun (row1_col16 _) x
      · exact fun x => congrFun (row1_col0 _) x
      · exact fun x => congrFun (row0_col48 _) x
      · exact fun x => congrFun (row0_col32 _) x
      · exact fun x => congrFun (row0_col16 _) x
      · exact fun x => congrFun (row0_col0 _) x
    · have hc : (y 1).val < 64 := (y 1).isLt
      simp only [List.mem_cons, List.not_mem_nil, _root_.or_false, _root_.false_and, exists_false, exists_eq_or_imp, exists_eq_left]
      have hw : ((y 0).val = 2 * k.val + 1 ∧ 48 ≤ (y 1).val ∧ (y 1).val < 48 + 16) ∨ ((y 0).val = 2 * k.val + 1 ∧ 32 ≤ (y 1).val ∧ (y 1).val < 32 + 16) ∨ ((y 0).val = 2 * k.val + 1 ∧ 16 ≤ (y 1).val ∧ (y 1).val < 16 + 16) ∨ ((y 0).val = 2 * k.val + 1 ∧ 0 ≤ (y 1).val ∧ (y 1).val < 0 + 16) ∨ ((y 0).val = 2 * k.val + 0 ∧ 48 ≤ (y 1).val ∧ (y 1).val < 48 + 16) ∨ ((y 0).val = 2 * k.val + 0 ∧ 32 ≤ (y 1).val ∧ (y 1).val < 32 + 16) ∨ ((y 0).val = 2 * k.val + 0 ∧ 16 ≤ (y 1).val ∧ (y 1).val < 16 + 16) ∨ ((y 0).val = 2 * k.val + 0 ∧ 0 ≤ (y 1).val ∧ (y 1).val < 0 + 16) := by omega
      exact (Or.imp (mem_piece (inb := k0_off7_inb k 1) _ _ (k0_off7_eq k 1) y).mpr (Or.imp (mem_piece (inb := k0_off6_inb k 1) _ _ (k0_off6_eq k 1) y).mpr (Or.imp (mem_piece (inb := k0_off5_inb k 1) _ _ (k0_off5_eq k 1) y).mpr (Or.imp (mem_piece (inb := k0_off4_inb k 1) _ _ (k0_off4_eq k 1) y).mpr (Or.imp (mem_piece (inb := k0_off7_inb k 0) _ _ (k0_off7_eq k 0) y).mpr (Or.imp (mem_piece (inb := k0_off6_inb k 0) _ _ (k0_off6_eq k 0) y).mpr (Or.imp (mem_piece (inb := k0_off5_inb k 0) _ _ (k0_off5_eq k 0) y).mpr ((mem_piece (inb := k0_off4_inb k 0) _ _ (k0_off4_eq k 0) y).mpr)))))))) hw

/-- The whole loop: the output buffer comes to hold the kernel's function of the input buffer. -/
theorem rows_A (f g : S128x64.Idx → F .f32) (v1 a b : BitVec 32) (p : Fin k0_t1_loop.trips) :
    iprop(((inA).view.loc (thr d L) ↦{fullShare} f) ∗ ((outA).view.loc (thr d L) ↦{fullShare} g))
      ⊢ (wp frame (wpE (defs₀ (F := F)) 𝒱₀ (thr d L) none) Set.univ
          (Scf.Loop.for k0_t2_loop k0_t2_ok ⟨⟩ (k0_t2_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 a b p))
          fun _ => iprop(((inA).view.loc (thr d L) ↦{fullShare} f)
            ∗ ((outA).view.loc (thr d L) ↦{fullShare} fun y => elem (f y))) : sProp 𝕄) := by
  iintro ⟨Hi, Ho⟩
  sl_for (fun (k : ℕ) (_ : Unit) => iprop(((inA).view.loc (thr d L) ↦{fullShare} f)
    ∗ ∃ g', ⌜Done (2 * k) f g'⌝ ∗ ((outA).view.loc (thr d L) ↦{fullShare} g'))) $$ [Hi Ho]
  case region =>
    intro k _
    iintro ⟨Hi, %g', %hg, Ho⟩
    iapply (trip_A d L f g' k v1 a b p hg) $$ [Hi Ho]
    iframe
  isplitl [Hi Ho]
  · iframe Hi
    iexists g
    iframe Ho
    ipureintro
    intro y hy
    omega
  iintro %_ ⟨Hi, %g', %hg, Ho⟩
  have e : g' = fun y => elem (f y) := by
    funext y
    have h : (y 0).val < 128 := (y 0).isLt
    have hg' : Done (2 * k0_t2_loop.trips) f g' := hg
    rw [trips_rows] at hg'
    exact hg' y (by omega)
  subst e
  iframe

/-- One trip fills two more rows of the output buffer. -/
theorem trip_B (f g : S128x64.Idx → F .f32) (k : Fin k0_t3_loop.trips) (hg : Done (2 * k.val) f g) :
    iprop(((inB).view.loc (thr d L) ↦{fullShare} f) ∗ ((outB).view.loc (thr d L) ↦{fullShare} g))
      ⊢ (wp frame (wpE (defs₀ (F := F)) 𝒱₀ (thr d L) none) Set.univ
          (k0_t3_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 k ())
          fun _ => iprop(((inB).view.loc (thr d L) ↦{fullShare} f)
            ∗ ∃ g', ⌜Done (2 * k.val + 2) f g'⌝ ∗ ((outB).view.loc (thr d L) ↦{fullShare} g')) : sProp 𝕄) := by
  unfold k0_t3_body
  iintro ⟨Hi, Ho⟩
  sl_exec
  sl_step
  iframe Hi
  iexists _
  iframe Ho
  ipureintro
  intro y hy
  refine (congrFun (View.read_whole (Val := Elt F) cc0_scratch3 _) y).symm.trans ?_
  by_cases hlt : (y 0).val < 2 * k.val
  · refine (View.read_writes_apply_of_forall_not_mem (v := (outB).view) (Val := Elt F) (f := g) y _ ?_).trans (hg y hlt)
    intro p hp
    simp only [List.mem_cons, List.not_mem_nil, _root_.or_false, _root_.false_and, exists_false] at hp
    rcases hp with rfl | rfl | rfl | rfl | rfl | rfl | rfl | rfl
    · exact not_mem_piece (inb := k0_off13_inb k 1) (2 * k.val + 1) 48 (k0_off13_eq k 1) y (by omega)
    · exact not_mem_piece (inb := k0_off12_inb k 1) (2 * k.val + 1) 32 (k0_off12_eq k 1) y (by omega)
    · exact not_mem_piece (inb := k0_off11_inb k 1) (2 * k.val + 1) 16 (k0_off11_eq k 1) y (by omega)
    · exact not_mem_piece (inb := k0_off10_inb k 1) (2 * k.val + 1) 0 (k0_off10_eq k 1) y (by omega)
    · exact not_mem_piece (inb := k0_off13_inb k 0) (2 * k.val + 0) 48 (k0_off13_eq k 0) y (by omega)
    · exact not_mem_piece (inb := k0_off12_inb k 0) (2 * k.val + 0) 32 (k0_off12_eq k 0) y (by omega)
    · exact not_mem_piece (inb := k0_off11_inb k 0) (2 * k.val + 0) 16 (k0_off11_eq k 0) y (by omega)
    · exact not_mem_piece (inb := k0_off10_inb k 0) (2 * k.val + 0) 0 (k0_off10_eq k 0) y (by omega)
  · refine View.read_writes_apply_of_pieces (v := (outB).view) (Val := Elt F) (f := g) (fun y => elem (f y)) _ ?_ y ?_
    · intro p hp
      simp only [List.mem_cons, List.not_mem_nil, _root_.or_false, _root_.false_and, exists_false] at hp
      rcases hp with rfl | rfl | rfl | rfl | rfl | rfl | rfl | rfl
      · exact fun x => congrFun (row1_col48' _) x
      · exact fun x => congrFun (row1_col32' _) x
      · exact fun x => congrFun (row1_col16' _) x
      · exact fun x => congrFun (row1_col0' _) x
      · exact fun x => congrFun (row0_col48' _) x
      · exact fun x => congrFun (row0_col32' _) x
      · exact fun x => congrFun (row0_col16' _) x
      · exact fun x => congrFun (row0_col0' _) x
    · have hc : (y 1).val < 64 := (y 1).isLt
      simp only [List.mem_cons, List.not_mem_nil, _root_.or_false, _root_.false_and, exists_false, exists_eq_or_imp, exists_eq_left]
      have hw : ((y 0).val = 2 * k.val + 1 ∧ 48 ≤ (y 1).val ∧ (y 1).val < 48 + 16) ∨ ((y 0).val = 2 * k.val + 1 ∧ 32 ≤ (y 1).val ∧ (y 1).val < 32 + 16) ∨ ((y 0).val = 2 * k.val + 1 ∧ 16 ≤ (y 1).val ∧ (y 1).val < 16 + 16) ∨ ((y 0).val = 2 * k.val + 1 ∧ 0 ≤ (y 1).val ∧ (y 1).val < 0 + 16) ∨ ((y 0).val = 2 * k.val + 0 ∧ 48 ≤ (y 1).val ∧ (y 1).val < 48 + 16) ∨ ((y 0).val = 2 * k.val + 0 ∧ 32 ≤ (y 1).val ∧ (y 1).val < 32 + 16) ∨ ((y 0).val = 2 * k.val + 0 ∧ 16 ≤ (y 1).val ∧ (y 1).val < 16 + 16) ∨ ((y 0).val = 2 * k.val + 0 ∧ 0 ≤ (y 1).val ∧ (y 1).val < 0 + 16) := by omega
      exact (Or.imp (mem_piece (inb := k0_off13_inb k 1) _ _ (k0_off13_eq k 1) y).mpr (Or.imp (mem_piece (inb := k0_off12_inb k 1) _ _ (k0_off12_eq k 1) y).mpr (Or.imp (mem_piece (inb := k0_off11_inb k 1) _ _ (k0_off11_eq k 1) y).mpr (Or.imp (mem_piece (inb := k0_off10_inb k 1) _ _ (k0_off10_eq k 1) y).mpr (Or.imp (mem_piece (inb := k0_off13_inb k 0) _ _ (k0_off13_eq k 0) y).mpr (Or.imp (mem_piece (inb := k0_off12_inb k 0) _ _ (k0_off12_eq k 0) y).mpr (Or.imp (mem_piece (inb := k0_off11_inb k 0) _ _ (k0_off11_eq k 0) y).mpr ((mem_piece (inb := k0_off10_inb k 0) _ _ (k0_off10_eq k 0) y).mpr)))))))) hw

/-- The whole loop: the output buffer comes to hold the kernel's function of the input buffer. -/
theorem rows_B (f g : S128x64.Idx → F .f32) :
    iprop(((inB).view.loc (thr d L) ↦{fullShare} f) ∗ ((outB).view.loc (thr d L) ↦{fullShare} g))
      ⊢ (wp frame (wpE (defs₀ (F := F)) 𝒱₀ (thr d L) none) Set.univ
          (Scf.Loop.for k0_t3_loop k0_t3_ok ⟨⟩ (k0_t3_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7))
          fun _ => iprop(((inB).view.loc (thr d L) ↦{fullShare} f)
            ∗ ((outB).view.loc (thr d L) ↦{fullShare} fun y => elem (f y))) : sProp 𝕄) := by
  iintro ⟨Hi, Ho⟩
  sl_for (fun (k : ℕ) (_ : Unit) => iprop(((inB).view.loc (thr d L) ↦{fullShare} f)
    ∗ ∃ g', ⌜Done (2 * k) f g'⌝ ∗ ((outB).view.loc (thr d L) ↦{fullShare} g'))) $$ [Hi Ho]
  case region =>
    intro k _
    iintro ⟨Hi, %g', %hg, Ho⟩
    iapply (trip_B d L f g' k hg) $$ [Hi Ho]
    iframe
  isplitl [Hi Ho]
  · iframe Hi
    iexists g
    iframe Ho
    ipureintro
    intro y hy
    omega
  iintro %_ ⟨Hi, %g', %hg, Ho⟩
  have e : g' = fun y => elem (f y) := by
    funext y
    have h : (y 0).val < 128 := (y 0).isLt
    have hg' : Done (2 * k0_t3_loop.trips) f g' := hg
    rw [trips_rows'] at hg'
    exact hg' y (by omega)
  subst e
  iframe

end Cert.Proof

end
-- ==== Proof.Copies.lean ====
/- The four transfers of a subcore: a block of the argument into an input buffer, a computed block out of an output
   buffer, each on a semaphore of its own. What each has in flight, what its wait brings back. -/
module

public import proofs.«01_k».proof.Proof.Rows

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)

local notation "𝕄" => MT nD τ sig (HIx 1) (Elt F) ℕ UU ℕ
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)
local notation "inA" => (Memref.whole Cert.KernelIdeal.cc0_scratch0 : Memref Cert.KernelIdeal.sig Kind.scVector Space.vmem Cert.KernelIdeal.S128x64 EltTy.f32)
local notation "inB" => (Memref.whole Cert.KernelIdeal.cc0_scratch1 : Memref Cert.KernelIdeal.sig Kind.scVector Space.vmem Cert.KernelIdeal.S128x64 EltTy.f32)
local notation "outA" => (Memref.whole Cert.KernelIdeal.cc0_scratch2 : Memref Cert.KernelIdeal.sig Kind.scVector Space.vmem Cert.KernelIdeal.S128x64 EltTy.f32)
local notation "outB" => (Memref.whole Cert.KernelIdeal.cc0_scratch3 : Memref Cert.KernelIdeal.sig Kind.scVector Space.vmem Cert.KernelIdeal.S128x64 EltTy.f32)

variable (d : Dev nD) (L : grid0.Coords)

/-! ## What the transfers move -/

abbrev EC : UEmb Counters (MT nD τ sig (HIx 1) (Elt F) ℕ UU ℕ) := countersEmb (U := UU)

/-- What a transfer credits its semaphore with. -/
abbrev credit : ℕ := (inA).view.dmaCredit

/-- Chunk `n` of the argument `X`, by rows. -/
abbrev blk (X : S64x1024x64.Idx → F .f32) (n : Fin 16) : S128x64.Idx → F .f32 := (xChunk L n).view.read (Elt F) X
/-- The whole result: the kernel's function of every element. -/
abbrev result (X : S64x1024x64.Idx → F .f32) : S64x1024x64.Idx → F .f32 := fun j => elem (X j)

variable (X Y : S64x1024x64.Idx → F .f32)

/-- A chunk of the argument; of the result as it was; of the result computed. -/
abbrev xC (n : Fin 16) : sProp 𝕄 := xLoc d ↦[chunk L n]{fullShare} X
abbrev oC (n : Fin 16) : sProp 𝕄 := oLoc d ↦[chunk L n]{fullShare} Y
abbrev rC (n : Fin 16) : sProp 𝕄 := oLoc d ↦[chunk L n]{fullShare} result X

/-- One of a subcore's two lines of work: its input and output buffers, the semaphores of its transfers, and which of
    two neighbouring chunks is its own. -/
structure Line where
  holdsIn : (S128x64.Idx → F .f32) → sProp 𝕄
  holdsOut : (S128x64.Idx → F .f32) → sProp 𝕄
  semIn : DmaSem sig
  semOut : DmaSem sig
  side : Fin 2

def lineA : Line (F := F) where
  holdsIn f := (inA).view.loc (thr d L) ↦{fullShare} f
  holdsOut f := (outA).view.loc (thr d L) ↦{fullShare} f
  semIn := cc0_scratch4.sem
  semOut := cc0_scratch6.sem
  side := 0
def lineB : Line (F := F) where
  holdsIn f := (inB).view.loc (thr d L) ↦{fullShare} f
  holdsOut f := (outB).view.loc (thr d L) ↦{fullShare} f
  semIn := cc0_scratch5.sem
  semOut := cc0_scratch7.sem
  side := 1

variable (l : Line (F := F))

/-- A transfer into the line's input buffer, of chunk `n`; one out of its output buffer. -/
abbrev FIn (n : Fin 16) : sProp 𝕄 :=
  Transfers.Flight EC (thr d L) (.dma l.semIn) (none : HIx 1) credit iprop(l.holdsIn (blk L X n) ∗ xC d L X n)
abbrev FOut (n : Fin 16) : sProp 𝕄 :=
  Transfers.Flight EC (thr d L) (.dma l.semOut) (none : HIx 1) credit iprop(rC d L X n ∗ ∃ g, l.holdsOut g)

/-- A chunk as the program names it. -/
theorem pts_xC (n : Fin 16) : ((xChunk L n).view.loc (thr d L) ↦[(xChunk L n).view.set]{fullShare} X : sProp 𝕄) = xC d L X n := by rw [set_xChunk]
theorem pts_oC (n : Fin 16) : ((oChunk L n).view.loc (thr d L) ↦[(oChunk L n).view.set]{fullShare} Y : sProp 𝕄) = oC d L Y n := by rw [set_oChunk]

/-- A whole output buffer as a transfer's source names it. -/
theorem pts_outA (f : S128x64.Idx → F .f32) :
    ((outA).view.loc (thr d L) ↦[(outA).view.set]{fullShare} f : sProp 𝕄) = (outA).view.loc (thr d L) ↦{fullShare} f := by
  show ((outA).view.loc (thr d L) ↦[(View.whole (cc0_scratch2 : Ref sig .scVector)).set]{fullShare} f : sProp 𝕄) = _
  rw [View.set_whole]
theorem pts_outB (f : S128x64.Idx → F .f32) :
    ((outB).view.loc (thr d L) ↦[(outB).view.set]{fullShare} f : sProp 𝕄) = (outB).view.loc (thr d L) ↦{fullShare} f := by
  show ((outB).view.loc (thr d L) ↦[(View.whole (cc0_scratch3 : Ref sig .scVector)).set]{fullShare} f : sProp 𝕄) = _
  rw [View.set_whole]

theorem numel_pos : 0 < S128x64.numel := Shape.numel_pos fun a => by fin_cases a <;> decide
theorem credit_pos : 0 < credit := View.dmaCredit_pos (s := S128x64) (e := .f32) (inA).view numel_pos

/-- The chunk written from a buffer holding the kernel's function of the argument's chunk is the result's. -/
theorem written (n : Fin 16) :
    ((oChunk L n).view.loc (thr d L) ↦[(oChunk L n).view.set]{fullShare}
        ((oChunk L n).view.write (Elt F) Y (fun y => elem (blk L X n y)) Finset.univ) : sProp 𝕄) = rC d L X n := by
  show _ = oC d L (result X) n
  rw [← pts_oC d L (result X) n]
  refine pointsTo_congr fun j hj => ?_
  obtain ⟨y, -, rfl⟩ := Finset.mem_map.mp hj
  exact View.write_emb_of_mem (v := (oChunk L n).view) (Val := Elt F) _ _ (Finset.mem_univ y)

theorem fetch_A (n : Fin 16) (o : Fin 3 → ℕ) (h : ∀ a, o a + S1x128x64.size a ≤ S64x1024x64.size a) (ho : o = start L n.val)
    {h₁ : (xAt o h).view.WordExact} {h₂ : (inA).view.WordExact} {h₃} :
    iprop(xC d L X n ∗ (∃ f, (lineA (F := F) d L).holdsIn f) ∗ semVal (thr d L, .dma (lineA (F := F) d L).semIn) 0)
      ⊢ (wp frame (wpE (defs₀ (F := F)) 𝒱₀ (thr d L) none) Set.univ
          (Prog.lift (.enqueueDma (xAt o h) (.here inA) (.dma cc0_scratch4.sem) h₁ h₂ h₃))
          fun _ => FIn d L X (lineA d L) n : sProp 𝕄) := by
  subst ho
  unfold lineA
  rw [← pts_xC]
  iintro ⟨Hx, ⟨%f, Hi⟩, Hs⟩
  simp only [Prog.lift]
  iapply (Transfers.wp_dmaLocal EC 𝒱₀ (thr d L) none (src := xChunk L n) (dst := inA) (sm := .dma cc0_scratch4.sem) none credit rfl credit_pos (Finset.subset_univ _)) $$ [Hx Hi Hs]
  · iframe
  iintro Hf
  rw [wp_ret]
  imodintro
  iapply (Transfers.Flight_mono EC (thr d L) ?_) $$ Hf
  rw [← pts_xC]
  exact Entails.of_eq (by simp only [ReadAs.apply, View.write_whole_univ])

theorem send_A (n : Fin 16) (o : Fin 3 → ℕ) (h : ∀ a, o a + S1x128x64.size a ≤ S64x1024x64.size a) (ho : o = start L n.val)
    {h₁ : (outA).view.WordExact} {h₂ : (oAt o h).view.WordExact} {h₃} :
    iprop(oC d L Y n ∗ (lineA (F := F) d L).holdsOut (fun y => elem (blk L X n y)) ∗ semVal (thr d L, .dma (lineA (F := F) d L).semOut) 0)
      ⊢ (wp frame (wpE (defs₀ (F := F)) 𝒱₀ (thr d L) none) Set.univ
          (Prog.lift (.enqueueDma outA (.here (oAt o h)) (.dma cc0_scratch6.sem) h₁ h₂ h₃))
          fun _ => FOut d L X (lineA d L) n : sProp 𝕄) := by
  subst ho
  unfold lineA
  rw [← pts_oC]
  iintro ⟨Hx, Hi, Hs⟩
  ihave Hi := (Entails.of_eq (pts_outA d L _).symm) $$ Hi
  simp only [Prog.lift]
  iapply (Transfers.wp_dmaLocal EC 𝒱₀ (thr d L) none (src := outA) (dst := oChunk L n) (sm := .dma cc0_scratch6.sem) (q := fullShare) (fs := fun y => elem (blk L X n y)) (fd := Y) none credit rfl credit_pos (Finset.Subset.refl _)) $$ [Hx Hi Hs]
  · iframe
  iintro Hf
  rw [wp_ret]
  imodintro
  iapply (Transfers.Flight_mono EC (thr d L) ?_) $$ Hf
  rw [← written d L X Y n]
  iintro ⟨Ho, Hi⟩
  isplitl [Ho]
  · iexact Ho
  iexists _
  iapply (Entails.of_eq (pts_outA d L _)) $$ Hi

theorem fetch_B (n : Fin 16) (o : Fin 3 → ℕ) (h : ∀ a, o a + S1x128x64.size a ≤ S64x1024x64.size a) (ho : o = start L n.val)
    {h₁ : (xAt o h).view.WordExact} {h₂ : (inB).view.WordExact} {h₃} :
    iprop(xC d L X n ∗ (∃ f, (lineB (F := F) d L).holdsIn f) ∗ semVal (thr d L, .dma (lineB (F := F) d L).semIn) 0)
      ⊢ (wp frame (wpE (defs₀ (F := F)) 𝒱₀ (thr d L) none) Set.univ
          (Prog.lift (.enqueueDma (xAt o h) (.here inB) (.dma cc0_scratch5.sem) h₁ h₂ h₃))
          fun _ => FIn d L X (lineB d L) n : sProp 𝕄) := by
  subst ho
  unfold lineB
  rw [← pts_xC]
  iintro ⟨Hx, ⟨%f, Hi⟩, Hs⟩
  simp only [Prog.lift]
  iapply (Transfers.wp_dmaLocal EC 𝒱₀ (thr d L) none (src := xChunk L n) (dst := inB) (sm := .dma cc0_scratch5.sem) none credit rfl credit_pos (Finset.subset_univ _)) $$ [Hx Hi Hs]
  · iframe
  iintro Hf
  rw [wp_ret]
  imodintro
  iapply (Transfers.Flight_mono EC (thr d L) ?_) $$ Hf
  rw [← pts_xC]
  exact Entails.of_eq (by simp only [ReadAs.apply, View.write_whole_univ])

theorem send_B (n : Fin 16) (o : Fin 3 → ℕ) (h : ∀ a, o a + S1x128x64.size a ≤ S64x1024x64.size a) (ho : o = start L n.val)
    {h₁ : (outB).view.WordExact} {h₂ : (oAt o h).view.WordExact} {h₃} :
    iprop(oC d L Y n ∗ (lineB (F := F) d L).holdsOut (fun y => elem (blk L X n y)) ∗ semVal (thr d L, .dma (lineB (F := F) d L).semOut) 0)
      ⊢ (wp frame (wpE (defs₀ (F := F)) 𝒱₀ (thr d L) none) Set.univ
          (Prog.lift (.enqueueDma outB (.here (oAt o h)) (.dma cc0_scratch7.sem) h₁ h₂ h₃))
          fun _ => FOut d L X (lineB d L) n : sProp 𝕄) := by
  subst ho
  unfold lineB
  rw [← pts_oC]
  iintro ⟨Hx, Hi, Hs⟩
  ihave Hi := (Entails.of_eq (pts_outB d L _).symm) $$ Hi
  simp only [Prog.lift]
  iapply (Transfers.wp_dmaLocal EC 𝒱₀ (thr d L) none (src := outB) (dst := oChunk L n) (sm := .dma cc0_scratch7.sem) (q := fullShare) (fs := fun y => elem (blk L X n y)) (fd := Y) none credit rfl credit_pos (Finset.Subset.refl _)) $$ [Hx Hi Hs]
  · iframe
  iintro Hf
  rw [wp_ret]
  imodintro
  iapply (Transfers.Flight_mono EC (thr d L) ?_) $$ Hf
  rw [← written d L X Y n]
  iintro ⟨Ho, Hi⟩
  isplitl [Ho]
  · iexact Ho
  iexists _
  iapply (Entails.of_eq (pts_outB d L _)) $$ Hi

end Cert.Proof

end
-- ==== Proof.Halves.lean ====
/- A subcore's loop over its chunks, two to a trip: each line takes its chunk in, computes it, sends it out and asks
   for the chunk of the next trip. The invariant before trip `p`, and each half of a trip from it. -/
module

public import proofs.«01_k».proof.Proof.Copies

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)

local notation "𝕄" => MT nD τ sig (HIx 1) (Elt F) ℕ UU ℕ
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)
local notation "inA" => (Memref.whole Cert.KernelIdeal.cc0_scratch0 : Memref Cert.KernelIdeal.sig Kind.scVector Space.vmem Cert.KernelIdeal.S128x64 EltTy.f32)
local notation "inB" => (Memref.whole Cert.KernelIdeal.cc0_scratch1 : Memref Cert.KernelIdeal.sig Kind.scVector Space.vmem Cert.KernelIdeal.S128x64 EltTy.f32)
local notation "outA" => (Memref.whole Cert.KernelIdeal.cc0_scratch2 : Memref Cert.KernelIdeal.sig Kind.scVector Space.vmem Cert.KernelIdeal.S128x64 EltTy.f32)
local notation "outB" => (Memref.whole Cert.KernelIdeal.cc0_scratch3 : Memref Cert.KernelIdeal.sig Kind.scVector Space.vmem Cert.KernelIdeal.S128x64 EltTy.f32)

variable (d : Dev nD) (L : grid0.Coords)

variable (X Y : S64x1024x64.Idx → F .f32) (l : Line (F := F))
  (O : CellTallies nD τ sig (HIx 1)) (W : Waits sig (HIx 1))

/-! ## A line's chunks, from a trip on and before one -/

def fromK (n : ℕ) : Finset (Fin 8) := Finset.univ.filter fun k : Fin 8 => n ≤ k.val
def belowK (n : ℕ) : Finset (Fin 8) := Finset.univ.filter fun k : Fin 8 => k.val < n

theorem mem_fromK {n : ℕ} {k : Fin 8} : k ∈ fromK n ↔ n ≤ k.val := by simp [fromK]
theorem mem_belowK {n : ℕ} {k : Fin 8} : k ∈ belowK n ↔ k.val < n := by simp [belowK]

theorem bigSep_fromK (n : ℕ) (hn : n < 8) (Φ : Fin 8 → sProp 𝕄) :
    bigSep (fromK n) Φ = iprop(Φ ⟨n, hn⟩ ∗ bigSep (fromK (n + 1)) Φ) := by
  rw [show fromK n = insert ⟨n, hn⟩ (fromK (n + 1)) by ext k; simp [mem_fromK, Fin.ext_iff]; omega,
    SparseCore.bigSep_insert' (by simp [mem_fromK])]
theorem bigSep_belowK (n : ℕ) (hn : n < 8) (Φ : Fin 8 → sProp 𝕄) :
    bigSep (belowK (n + 1)) Φ = iprop(Φ ⟨n, hn⟩ ∗ bigSep (belowK n) Φ) := by
  rw [show belowK (n + 1) = insert ⟨n, hn⟩ (belowK n) by ext k; simp [mem_belowK, Fin.ext_iff]; omega,
    SparseCore.bigSep_insert' (by simp [mem_belowK])]
theorem fromK_zero : fromK 0 = Finset.univ := by ext k; simp [mem_fromK]
theorem belowK_eight : belowK 8 = Finset.univ := by ext k; simp [mem_belowK]
theorem fromK_of_le {n : ℕ} (h : 8 ≤ n) : fromK n = ∅ := by ext k; simp [mem_fromK]; omega
theorem belowK_zero : belowK 0 = ∅ := by ext k; simp [mem_belowK]
attribute [irreducible] fromK belowK

/-- The chunk of trip `k` on a side: the even ones and the odd ones. -/
def nth (s : Fin 2) (k : Fin 8) : Fin 16 := ⟨2 * k.val + s.val, by omega⟩

/-! ## The invariant -/

/-- The input buffer: its chunk of trip `p` on its way, or nothing left to ask for. -/
def feed (p : ℕ) : sProp 𝕄 :=
  if h : p < 8 then FIn d L X l (nth l.side ⟨p, h⟩) else iprop((∃ f, l.holdsIn f) ∗ semVal (thr d L, .dma l.semIn) 0)
/-- The output buffer: the chunk of the trip before on its way out, or nothing sent yet. -/
def drain (p : ℕ) : sProp 𝕄 :=
  if h : 0 < p ∧ p - 1 < 8 then FOut d L X l (nth l.side ⟨p - 1, h.2⟩) else iprop((∃ g, l.holdsOut g) ∗ semVal (thr d L, .dma l.semOut) 0)

/-- One line before trip `p`: its transfers, and the chunks it holds. -/
def line (p : ℕ) : sProp 𝕄 :=
  iprop(feed d L X l p ∗ drain d L X l p
    ∗ bigSep (fromK (p + 1)) (fun k => xC d L X (nth l.side k)) ∗ bigSep (belowK p) (fun k => xC d L X (nth l.side k))
    ∗ bigSep (fromK p) (fun k => oC d L Y (nth l.side k)) ∗ bigSep (belowK (p - 1)) (fun k => rC d L X (nth l.side k)))

/-- The subcore's waits: those it had, and such as the launch counts nothing for. -/
def owing : sProp 𝕄 :=
  iprop(∃ W', ⌜∀ p ∈ W', p ∈ W ∨ p.2 = none ∨ p.2 = some (0 : Fin 1)⌝ ∗ owes (thr d L) O W')

/-! ## The steps of a half trip -/

/-- A wait for a transfer in flight: what it delivers, its semaphore at zero again. -/
theorem land (sem : DmaSem sig) (D : sProp 𝕄) {sp sp' : Space} {s s' : Shape} {e e' : EltTy} {κ' : Kind}
    {src : Memref sig .scVector sp' s' e'} {dst : Memref sig κ' sp s e} (hN : dst.view.dmaCredit = credit)
    {h₁ : src.view.WordExact} {h₂ : dst.view.WordExact} :
    iprop(Transfers.MayWaits (thr d L) (none : HIx 1) O ∗ Transfers.Flight EC (thr d L) (.dma sem) (none : HIx 1) credit D ∗ owing d L O W)
      ⊢ (wp frame (wpE (defs₀ (F := F)) 𝒱₀ (thr d L) none) Set.univ (Prog.lift (.waitDma2 sem src dst h₁ h₂))
          fun _ => iprop(D ∗ semVal (thr d L, .dma sem) 0 ∗ owing d L O W) : sProp 𝕄) := by
  unfold owing
  iintro ⟨Hm, Hf, %W', %hW, HO⟩
  ihave Hm := (Transfers.MayWaits.elim (.dma sem)) $$ Hm
  simp only [Prog.lift]
  iapply (Transfers.wp_waitLocalO EC 𝒱₀ (thr d L) none (none : HIx 1) hN) $$ [Hm Hf HO]
  · iframe
  iintro ⟨HD, Hs, HO⟩
  rw [wp_ret]
  imodintro
  iframe HD Hs
  iexists _
  iframe HO
  ipureintro
  intro p hp
  rcases Finset.mem_insert.mp hp with rfl | hp
  · exact Or.inr (Or.inl rfl)
  · exact hW p hp

theorem drain_zero {p : ℕ} (h : p = 0) : drain d L X l p = iprop((∃ g, l.holdsOut g) ∗ semVal (thr d L, .dma l.semOut) 0) := by
  unfold drain; rw [dif_neg (by omega)]
theorem drain_succ {p : ℕ} (hp : p < 8) : drain d L X l (p + 1) = FOut d L X l (nth l.side ⟨p, hp⟩) := by
  unfold drain; rw [dif_pos ⟨Nat.succ_pos p, hp⟩]; rfl
theorem feed_of_lt {p : ℕ} (hp : p < 8) : feed d L X l p = FIn d L X l (nth l.side ⟨p, hp⟩) := by unfold feed; rw [dif_pos hp]
theorem feed_of_le {p : ℕ} (hp : 8 ≤ p) : feed d L X l p = iprop((∃ f, l.holdsIn f) ∗ semVal (thr d L, .dma l.semIn) 0) := by
  unfold feed; rw [dif_neg (by omega)]

/-- Before the first trip a line's output buffer is free, with nothing sent. -/
theorem idle {p : ℕ} (h : p = 0) :
    iprop(drain d L X l p ∗ bigSep (belowK (p - 1)) (fun k => rC d L X (nth l.side k)))
      ⊢ (iprop((∃ g, l.holdsOut g) ∗ semVal (thr d L, .dma l.semOut) 0 ∗ bigSep (belowK p) (fun k => rC d L X (nth l.side k))) : sProp 𝕄) := by
  rw [drain_zero d L X l h, show p - 1 = p by omega]
  iintro ⟨⟨Hg, Hs⟩, Hb⟩
  iframe

/-- A line's chunk of trip `p` arrives: its input buffer holds it, and the argument's chunk is back. -/
theorem arrive (Q : Unit → sProp 𝕄) {p : ℕ} (hp : p < 8) (sem : DmaSem sig) (hs : sem = l.semIn) {sp sp' : Space} {s s' : Shape} {e e' : EltTy} {κ' : Kind}
    {src : Memref sig .scVector sp' s' e'} {dst : Memref sig κ' sp s e} (hN : dst.view.dmaCredit = credit)
    {h₁ : src.view.WordExact} {h₂ : dst.view.WordExact} :
    iprop(Transfers.MayWaits (thr d L) (none : HIx 1) O ∗ feed d L X l p ∗ bigSep (belowK p) (fun k => xC d L X (nth l.side k)) ∗ owing d L O W
        ∗ (iprop(l.holdsIn (blk L X (nth l.side ⟨p, hp⟩)) ∗ semVal (thr d L, .dma l.semIn) 0
            ∗ bigSep (belowK (p + 1)) (fun k => xC d L X (nth l.side k)) ∗ owing d L O W) -∗ Q ⟨⟩))
      ⊢ (wp frame (wpE (defs₀ (F := F)) 𝒱₀ (thr d L) none) Set.univ (Prog.lift (.waitDma2 sem src dst h₁ h₂))
          Q : sProp 𝕄) := by
  subst hs
  unfold feed
  rw [dif_pos hp, bigSep_belowK p hp]
  iintro ⟨Hm, Hf, Hb, HO, HQ⟩
  ihave Hw := (land d L O W l.semIn _ hN (h₁ := h₁) (h₂ := h₂)) $$ [Hm Hf HO]
  · iframe
  iapply wp_wand $$ Hw
  iintro %_ ⟨⟨Hi, Hx⟩, Hs, HO⟩
  iapply HQ
  iframe

/-- A line's output buffer is free: the chunk sent in the trip before has left, if one was. -/
theorem leave (Q : Unit → sProp 𝕄) {p : ℕ} (hp : p ≤ 8) (h0 : 0 < p) (sem : DmaSem sig) (hs : sem = l.semOut) {sp sp' : Space} {s s' : Shape} {e e' : EltTy} {κ' : Kind}
    {src : Memref sig .scVector sp' s' e'} {dst : Memref sig κ' sp s e} (hN : dst.view.dmaCredit = credit)
    {h₁ : src.view.WordExact} {h₂ : dst.view.WordExact} :
    iprop(Transfers.MayWaits (thr d L) (none : HIx 1) O ∗ drain d L X l p ∗ bigSep (belowK (p - 1)) (fun k => rC d L X (nth l.side k)) ∗ owing d L O W
        ∗ (iprop((∃ g, l.holdsOut g) ∗ semVal (thr d L, .dma l.semOut) 0
            ∗ bigSep (belowK p) (fun k => rC d L X (nth l.side k)) ∗ owing d L O W) -∗ Q ⟨⟩))
      ⊢ (wp frame (wpE (defs₀ (F := F)) 𝒱₀ (thr d L) none) Set.univ (Prog.lift (.waitDma2 sem src dst h₁ h₂))
          Q : sProp 𝕄) := by
  subst hs
  obtain ⟨q, rfl⟩ : ∃ q, p = q + 1 := ⟨p - 1, by omega⟩
  have hq : q < 8 := by omega
  rw [drain_succ d L X l hq, Nat.add_sub_cancel, bigSep_belowK q hq]
  iintro ⟨Hm, Hf, Hb, HO, HQ⟩
  ihave Hw := (land d L O W l.semOut _ hN (h₁ := h₁) (h₂ := h₂)) $$ [Hm Hf HO]
  · iframe
  iapply wp_wand $$ Hw
  iintro %_ ⟨⟨Hi, Hx⟩, Hs, HO⟩
  iapply HQ
  iframe

theorem refill_A (p : Fin k0_t1_loop.trips) {α : Type} (r : α) {h₂ : (inA).view.WordExact} :
    iprop((∃ f, (lineA (F := F) d L).holdsIn f) ∗ semVal (thr d L, .dma (lineA (F := F) d L).semIn) 0
        ∗ bigSep (fromK (p.val + 1)) (fun k => xC d L X (nth (lineA (F := F) d L).side k)))
      ⊢ (wp frame (wpE (defs₀ (F := F)) 𝒱₀ (thr d L) none) Set.univ
          (if h : k0_cond2 p = 1#1 then do
            Prog.lift (.enqueueDma (xAt (k0_off8 L p) (k0_off8_inb L p h)) (.here inA) (.dma cc0_scratch4.sem) ((View.wordExact_bits rfl).reshape _ _) h₂ ⟨Or.inl rfl, trivial⟩)
            pure r
          else pure r)
          fun _ => iprop(feed d L X (lineA d L) (p.val + 1)
            ∗ bigSep (fromK (p.val + 1 + 1)) (fun k => xC d L X (nth (lineA (F := F) d L).side k))) : sProp 𝕄) := by
  have hp : p.val < 8 := trips_pairs ▸ p.isLt
  by_cases h : k0_cond2 p = 1#1
  · have h7 : p.val + 1 < 8 := by have := (more_iff p).mp h; omega
    rw [dif_pos h, wp_bind, feed_of_lt d L X _ h7, bigSep_fromK _ h7]
    iintro ⟨Hi, Hs, Hx, Hr⟩
    ihave Hw := (fetch_A d L X (nth (lineA (F := F) d L).side ⟨p.val + 1, h7⟩) _ _ (off_next L p h) (h₂ := h₂)) $$ [Hi Hs Hx]
    · iframe
    iapply wp_wand $$ Hw
    iintro %_ Hf
    rw [Prog.pure_eq_ret, wp_ret]
    imodintro
    iframe
  · have h7 : 8 ≤ p.val + 1 := by have := mt (more_iff p).mpr h; omega
    rw [dif_neg h, feed_of_le d L X _ h7, fromK_of_le h7, fromK_of_le (by omega : 8 ≤ p.val + 1 + 1)]
    iintro ⟨Hi, Hs, Hx⟩
    rw [Prog.pure_eq_ret, wp_ret]
    imodintro
    iframe

theorem compute_A (Q : sProp 𝕄) (v1 a b : BitVec 32) (p : Fin k0_t1_loop.trips) (hp : p.val < 8) {α : Type} (r : α) {h₂ : (inA).view.WordExact}
    {h₄ : (outA).view.WordExact} {h₅} {h₆} :
    iprop((lineA d L).holdsIn (blk L X (nth (lineA (F := F) d L).side ⟨p.val, hp⟩)) ∗ (∃ g, (lineA (F := F) d L).holdsOut g)
        ∗ semVal (thr d L, .dma (lineA (F := F) d L).semIn) 0 ∗ semVal (thr d L, .dma (lineA (F := F) d L).semOut) 0
        ∗ bigSep (fromK (p.val + 1)) (fun k => xC d L X (nth (lineA (F := F) d L).side k))
        ∗ bigSep (fromK p.val) (fun k => oC d L Y (nth (lineA (F := F) d L).side k))
        ∗ (iprop(feed d L X (lineA d L) (p.val + 1) ∗ drain d L X (lineA d L) (p.val + 1)
            ∗ bigSep (fromK (p.val + 1 + 1)) (fun k => xC d L X (nth (lineA (F := F) d L).side k))
            ∗ bigSep (fromK (p.val + 1)) (fun k => oC d L Y (nth (lineA (F := F) d L).side k))) -∗ Q))
      ⊢ (wp frame (wpE (defs₀ (F := F)) 𝒱₀ (thr d L) none) Set.univ
          (Scf.Loop.for k0_t2_loop k0_t2_ok ⟨⟩ (k0_t2_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 a b p))
          fun _ => wp frame (wpE (defs₀ (F := F)) 𝒱₀ (thr d L) none) Set.univ
            (Prog.lift (.enqueueDma outA (.here (oAt (k0_off2 L p 0#32) (k0_off2_inb L p 0))) (.dma cc0_scratch6.sem) h₄ h₅ h₆))
          fun _ => wp frame (wpE (defs₀ (F := F)) 𝒱₀ (thr d L) none) Set.univ
            (if h : k0_cond2 p = 1#1 then do
              Prog.lift (.enqueueDma (xAt (k0_off8 L p) (k0_off8_inb L p h)) (.here inA) (.dma cc0_scratch4.sem) ((View.wordExact_bits rfl).reshape _ _) h₂ ⟨Or.inl rfl, trivial⟩)
              pure r
            else pure r)
          fun _ => Q : sProp 𝕄) := by
  rw [drain_succ d L X _ hp, bigSep_fromK p.val hp (fun k => oC d L Y (nth (lineA (F := F) d L).side k))]
  iintro ⟨Hi, ⟨%g, Hg⟩, Hsi, Hso, Hxs, ⟨Ho, Hos⟩, HQ⟩
  ihave Hw := (rows_A d L (blk L X (nth (lineA (F := F) d L).side ⟨p.val, hp⟩)) g v1 a b p) $$ [Hi Hg]
  · unfold lineA; iframe
  iapply wp_wand $$ Hw
  iintro %_ ⟨Hi, Hg⟩
  ihave Hw := (send_A d L X Y (nth (lineA (F := F) d L).side ⟨p.val, hp⟩) _ _ (off_now L p) (h₁ := h₄) (h₂ := h₅) (h₃ := h₆)) $$ [Ho Hg Hso]
  · unfold lineA; iframe
  iapply wp_wand $$ Hw
  iintro %_ Hf
  ihave Hw := (refill_A d L X p r (h₂ := h₂)) $$ [Hi Hsi Hxs]
  · iframe
    iexists _
    unfold lineA
    iexact Hi
  iapply wp_wand $$ Hw
  iintro %_ ⟨Hfe, Hxs⟩
  iapply HQ
  iframe

theorem refill_B (p : Fin k0_t1_loop.trips) {α : Type} (r : α) {h₂ : (inB).view.WordExact} :
    iprop((∃ f, (lineB (F := F) d L).holdsIn f) ∗ semVal (thr d L, .dma (lineB (F := F) d L).semIn) 0
        ∗ bigSep (fromK (p.val + 1)) (fun k => xC d L X (nth (lineB (F := F) d L).side k)))
      ⊢ (wp frame (wpE (defs₀ (F := F)) 𝒱₀ (thr d L) none) Set.univ
          (if h : k0_cond4 p = 1#1 then do
            Prog.lift (.enqueueDma (xAt (k0_off14 L p) (k0_off14_inb L p h)) (.here inB) (.dma cc0_scratch5.sem) ((View.wordExact_bits rfl).reshape _ _) h₂ ⟨Or.inl rfl, trivial⟩)
            pure r
          else pure r)
          fun _ => iprop(feed d L X (lineB d L) (p.val + 1)
            ∗ bigSep (fromK (p.val + 1 + 1)) (fun k => xC d L X (nth (lineB (F := F) d L).side k))) : sProp 𝕄) := by
  have hp : p.val < 8 := trips_pairs ▸ p.isLt
  by_cases h : k0_cond4 p = 1#1
  · have h7 : p.val + 1 < 8 := by have := (more_iff' p).mp h; omega
    rw [dif_pos h, wp_bind, feed_of_lt d L X _ h7, bigSep_fromK _ h7]
    iintro ⟨Hi, Hs, Hx, Hr⟩
    ihave Hw := (fetch_B d L X (nth (lineB (F := F) d L).side ⟨p.val + 1, h7⟩) _ _ (off_next' L p h) (h₂ := h₂)) $$ [Hi Hs Hx]
    · iframe
    iapply wp_wand $$ Hw
    iintro %_ Hf
    rw [Prog.pure_eq_ret, wp_ret]
    imodintro
    iframe
  · have h7 : 8 ≤ p.val + 1 := by have := mt (more_iff' p).mpr h; omega
    rw [dif_neg h, feed_of_le d L X _ h7, fromK_of_le h7, fromK_of_le (by omega : 8 ≤ p.val + 1 + 1)]
    iintro ⟨Hi, Hs, Hx⟩
    rw [Prog.pure_eq_ret, wp_ret]
    imodintro
    iframe

theorem compute_B (Q : sProp 𝕄)  (p : Fin k0_t1_loop.trips) (hp : p.val < 8) {α : Type} (r : α) {h₂ : (inB).view.WordExact}
    {h₄ : (outB).view.WordExact} {h₅} {h₆} :
    iprop((lineB d L).holdsIn (blk L X (nth (lineB (F := F) d L).side ⟨p.val, hp⟩)) ∗ (∃ g, (lineB (F := F) d L).holdsOut g)
        ∗ semVal (thr d L, .dma (lineB (F := F) d L).semIn) 0 ∗ semVal (thr d L, .dma (lineB (F := F) d L).semOut) 0
        ∗ bigSep (fromK (p.val + 1)) (fun k => xC d L X (nth (lineB (F := F) d L).side k))
        ∗ bigSep (fromK p.val) (fun k => oC d L Y (nth (lineB (F := F) d L).side k))
        ∗ (iprop(feed d L X (lineB d L) (p.val + 1) ∗ drain d L X (lineB d L) (p.val + 1)
            ∗ bigSep (fromK (p.val + 1 + 1)) (fun k => xC d L X (nth (lineB (F := F) d L).side k))
            ∗ bigSep (fromK (p.val + 1)) (fun k => oC d L Y (nth (lineB (F := F) d L).side k))) -∗ Q))
      ⊢ (wp frame (wpE (defs₀ (F := F)) 𝒱₀ (thr d L) none) Set.univ
          (Scf.Loop.for k0_t3_loop k0_t3_ok ⟨⟩ (k0_t3_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 ))
          fun _ => wp frame (wpE (defs₀ (F := F)) 𝒱₀ (thr d L) none) Set.univ
            (Prog.lift (.enqueueDma outB (.here (oAt (k0_off2 L p 1#32) (k0_off2_inb L p 1))) (.dma cc0_scratch7.sem) h₄ h₅ h₆))
          fun _ => wp frame (wpE (defs₀ (F := F)) 𝒱₀ (thr d L) none) Set.univ
            (if h : k0_cond4 p = 1#1 then do
              Prog.lift (.enqueueDma (xAt (k0_off14 L p) (k0_off14_inb L p h)) (.here inB) (.dma cc0_scratch5.sem) ((View.wordExact_bits rfl).reshape _ _) h₂ ⟨Or.inl rfl, trivial⟩)
              pure r
            else pure r)
          fun _ => Q : sProp 𝕄) := by
  rw [drain_succ d L X _ hp, bigSep_fromK p.val hp (fun k => oC d L Y (nth (lineB (F := F) d L).side k))]
  iintro ⟨Hi, ⟨%g, Hg⟩, Hsi, Hso, Hxs, ⟨Ho, Hos⟩, HQ⟩
  ihave Hw := (rows_B d L (blk L X (nth (lineB (F := F) d L).side ⟨p.val, hp⟩)) g ) $$ [Hi Hg]
  · unfold lineB; iframe
  iapply wp_wand $$ Hw
  iintro %_ ⟨Hi, Hg⟩
  ihave Hw := (send_B d L X Y (nth (lineB (F := F) d L).side ⟨p.val, hp⟩) _ _ (off_now' L p) (h₁ := h₄) (h₂ := h₅) (h₃ := h₆)) $$ [Ho Hg Hso]
  · unfold lineB; iframe
  iapply wp_wand $$ Hw
  iintro %_ Hf
  ihave Hw := (refill_B d L X p r (h₂ := h₂)) $$ [Hi Hsi Hxs]
  · iframe
    iexists _
    unfold lineB
    iexact Hi
  iapply wp_wand $$ Hw
  iintro %_ ⟨Hfe, Hxs⟩
  iapply HQ
  iframe

/-- The even half of a trip. -/
theorem half_A (p : Fin k0_t1_loop.trips) (v1 a b : BitVec 32) :
    iprop(Transfers.MayWaits (thr d L) (none : HIx 1) O ∗ line d L X Y (lineA d L) p.val ∗ owing d L O W)
      ⊢ (wp frame (wpE (defs₀ (F := F)) 𝒱₀ (thr d L) none) Set.univ
          (k0_part15 L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 a b p)
          fun _ => iprop(line d L X Y (lineA d L) (p.val + 1) ∗ owing d L O W) : sProp 𝕄) := by
  have hp : p.val < 8 := trips_pairs ▸ p.isLt
  rw [k0_part15_eq_skeleton]; unfold k0_part15_skel
  simp only [wp_bind]
  unfold line
  iintro ⟨#Hm, ⟨Hf, Hd, Hxs, Hxb, Hos, Hob⟩, HO⟩
  iapply (arrive d L X (lineA d L) O W _ hp _ rfl (dst := inA) rfl) $$ [-]
  iframe Hf Hxb HO
  isplitr
  · iexact Hm
  iintro ⟨Hi, Hsi, Hxb, HO⟩
  have hc := fun Q => compute_A d L X Y Q v1 a b p hp
    (⟨Scf.iv a b p.val, Scalar.addi (Scalar.muli (Scf.iv a b p.val) 2#32) 1#32⟩ : Σ' (_ : BitVec 32), BitVec 32)
    (h₂ := (Memref.isWhole_whole _).wordExact) (h₄ := (Memref.isWhole_whole _).wordExact) (h₅ := ((View.wordExact_bits rfl).reshape _ _)) (h₆ := ⟨Or.inl rfl, trivial⟩)
  by_cases h1 : k0_cond1 p = 1#1
  · rw [dif_pos h1]
    simp only [wp_bind]
    iapply (leave d L X (lineA d L) O W _ hp.le ((later_iff p).mp h1) _ rfl
      (dst := oAt (k0_off3 L p) (k0_off3_inb L p h1)) rfl) $$ [-]
    iframe Hd Hob HO
    isplitr
    · iexact Hm
    iintro ⟨Hg, Hso, Hob, HO⟩
    iapply (hc _) $$ [-]
    iframe Hi Hg Hsi Hso Hxs Hos
    iintro ⟨Hf, Hd, Hxs, Hos⟩
    rw [Nat.add_sub_cancel]
    iframe
  · rw [dif_neg h1]
    simp only [wp_bind]
    have h0 : p.val = 0 := by have := mt (later_iff p).mpr h1; omega
    ihave Hd := (idle d L X _ h0) $$ [Hd Hob]
    · iframe
    icases Hd with ⟨Hg, Hso, Hob⟩
    iapply (hc _) $$ [-]
    iframe Hi Hg Hsi Hso Hxs Hos
    iintro ⟨Hf, Hd, Hxs, Hos⟩
    rw [Nat.add_sub_cancel]
    iframe

/-- A trip: its even half, and its odd one after. -/
theorem trip (p : Fin k0_t1_loop.trips) (v1 : BitVec 32) :
    iprop(Transfers.MayWaits (thr d L) (none : HIx 1) O ∗ line d L X Y (lineA d L) p.val ∗ line d L X Y (lineB d L) p.val ∗ owing d L O W)
      ⊢ (wp frame (wpE (defs₀ (F := F)) 𝒱₀ (thr d L) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 p ⟨⟩)
          fun _ => iprop(line d L X Y (lineA d L) (p.val + 1) ∗ line d L X Y (lineB d L) (p.val + 1) ∗ owing d L O W) : sProp 𝕄) := by
  have hp : p.val < 8 := trips_pairs ▸ p.isLt
  unfold k0_t1_body
  simp only [wp_bind]
  iintro ⟨#Hm, HA, HB, HO⟩
  ihave Hw := (half_A d L X Y O W p v1 0#32 1#32) $$ [HA HO]
  · iframe
    iexact Hm
  iapply wp_wand $$ Hw
  iintro %r ⟨HA, HO⟩
  unfold line
  icases HB with ⟨Hf, Hd, Hxs, Hxb, Hos, Hob⟩
  iapply (arrive d L X (lineB d L) O W _ hp _ rfl (dst := inB) rfl) $$ [-]
  iframe Hf Hxb HO
  isplitr
  · iexact Hm
  iintro ⟨Hi, Hsi, Hxb, HO⟩
  have hc := fun Q => compute_B d L X Y Q p hp
    PUnit.unit
    (h₂ := (Memref.isWhole_whole _).wordExact) (h₄ := (Memref.isWhole_whole _).wordExact) (h₅ := ((View.wordExact_bits rfl).reshape _ _)) (h₆ := ⟨Or.inl rfl, trivial⟩)
  by_cases h1 : k0_cond3 p = 1#1
  · rw [dif_pos h1]
    simp only [wp_bind]
    iapply (leave d L X (lineB d L) O W _ hp.le ((later_iff' p).mp h1) _ rfl
      (dst := oAt (k0_off9 L p) (k0_off9_inb L p h1)) rfl) $$ [-]
    iframe Hd Hob HO
    isplitr
    · iexact Hm
    iintro ⟨Hg, Hso, Hob, HO⟩
    iapply (hc _) $$ [-]
    iframe Hi Hg Hsi Hso Hxs Hos
    iintro ⟨Hf, Hd, Hxs, Hos⟩
    rw [Nat.add_sub_cancel]
    iframe
  · rw [dif_neg h1]
    simp only [wp_bind]
    have h0 : p.val = 0 := by have := mt (later_iff' p).mpr h1; omega
    ihave Hd := (idle d L X _ h0) $$ [Hd Hob]
    · iframe
    icases Hd with ⟨Hg, Hso, Hob⟩
    iapply (hc _) $$ [-]
    iframe Hi Hg Hsi Hso Hxs Hos
    iintro ⟨Hf, Hd, Hxs, Hos⟩
    rw [Nat.add_sub_cancel]
    iframe
end Cert.Proof

end
-- ==== Proof.Tile.lean ====
/- What one subcore does with its two slabs: the whole of its program, from its slabs as they were to the result's,
   and its own buffers and semaphores as the launch gives them and takes them back. -/
module

public import proofs.«01_k».proof.Proof.Halves

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)

local notation "𝕄" => MT nD τ sig (HIx 1) (Elt F) ℕ UU ℕ
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)
local notation "inA" => (Memref.whole Cert.KernelIdeal.cc0_scratch0 : Memref Cert.KernelIdeal.sig Kind.scVector Space.vmem Cert.KernelIdeal.S128x64 EltTy.f32)
local notation "inB" => (Memref.whole Cert.KernelIdeal.cc0_scratch1 : Memref Cert.KernelIdeal.sig Kind.scVector Space.vmem Cert.KernelIdeal.S128x64 EltTy.f32)
local notation "outA" => (Memref.whole Cert.KernelIdeal.cc0_scratch2 : Memref Cert.KernelIdeal.sig Kind.scVector Space.vmem Cert.KernelIdeal.S128x64 EltTy.f32)
local notation "outB" => (Memref.whole Cert.KernelIdeal.cc0_scratch3 : Memref Cert.KernelIdeal.sig Kind.scVector Space.vmem Cert.KernelIdeal.S128x64 EltTy.f32)

variable (d : Dev nD) (L : grid0.Coords)

variable (X Y : S64x1024x64.Idx → F .f32) (l : Line (F := F))
  (O : CellTallies nD τ sig (HIx 1)) (W : Waits sig (HIx 1))

/-! ## A line at the start and at the end -/

/-- A line's buffers and semaphores, with no transfer on its way. -/
def free : sProp 𝕄 :=
  iprop((∃ f, l.holdsIn f) ∗ semVal (thr d L, .dma l.semIn) 0 ∗ (∃ g, l.holdsOut g) ∗ semVal (thr d L, .dma l.semOut) 0)
abbrev allX : sProp 𝕄 := bigSep Finset.univ fun k : Fin 8 => xC d L X (nth l.side k)
abbrev allO : sProp 𝕄 := bigSep Finset.univ fun k : Fin 8 => oC d L Y (nth l.side k)
abbrev allR : sProp 𝕄 := bigSep Finset.univ fun k : Fin 8 => rC d L X (nth l.side k)

theorem opening :
    iprop(free d L l ∗ allX d L X l ∗ allO d L Y l)
      ⊢ (iprop((xC d L X (nth l.side 0) ∗ (∃ f, l.holdsIn f) ∗ semVal (thr d L, .dma l.semIn) 0)
          ∗ (FIn d L X l (nth l.side 0) -∗ line d L X Y l 0)) : sProp 𝕄) := by
  unfold free line allX allO
  rw [feed_of_lt d L X l (by decide : 0 < 8), drain_zero d L X l rfl, belowK_zero, ← fromK_zero,
    bigSep_fromK 0 (by decide) (fun k => xC d L X (nth l.side k)), bigSep_empty, bigSep_empty]
  iintro ⟨⟨Hi, Hsi, Hg, Hso⟩, ⟨Hx, Hxs⟩, Ho⟩
  isplitl [Hx Hi Hsi]
  · isplitl [Hx]
    · iexact Hx
    iframe
  iintro Hf
  iframe
  isplitl [Hf]
  · iexact Hf
  isplitr
  · iempintro
  iempintro

theorem closing (Q : Unit → sProp 𝕄) (sem : DmaSem sig) (hs : sem = l.semOut) {sp sp' : Space} {s s' : Shape} {e e' : EltTy} {κ' : Kind}
    {src : Memref sig .scVector sp' s' e'} {dst : Memref sig κ' sp s e} (hN : dst.view.dmaCredit = credit)
    {h₁ : src.view.WordExact} {h₂ : dst.view.WordExact} :
    iprop(Transfers.MayWaits (thr d L) (none : HIx 1) O ∗ line d L X Y l 8 ∗ owing d L O W
        ∗ (iprop(free d L l ∗ allX d L X l ∗ allR d L X l ∗ owing d L O W) -∗ Q ⟨⟩))
      ⊢ (wp frame (wpE (defs₀ (F := F)) 𝒱₀ (thr d L) none) Set.univ (Prog.lift (.waitDma2 sem src dst h₁ h₂)) Q : sProp 𝕄) := by
  unfold free line allX allR
  rw [feed_of_le d L X l le_rfl]
  iintro ⟨Hm, ⟨⟨Hi, Hsi⟩, Hd, -, Hx, -, Hr⟩, HO, HQ⟩
  iapply (leave d L X l O W Q le_rfl (by decide : 0 < 8) sem hs (dst := dst) hN) $$ [-]
  iframe Hm Hd Hr HO
  iintro ⟨Hg, Hso, Hr, HO⟩
  iapply HQ
  rw [belowK_eight]
  iframe

/-! ## The program of a subcore -/

theorem task :
    iprop(Transfers.MayWaits (thr d L) (none : HIx 1) O
        ∗ (free d L (lineA d L) ∗ allX d L X (lineA d L) ∗ allO d L Y (lineA d L))
        ∗ (free d L (lineB d L) ∗ allX d L X (lineB d L) ∗ allO d L Y (lineB d L)) ∗ owing d L O W)
      ⊢ (wp frame (wpE (defs₀ (F := F)) 𝒱₀ (thr d L) none) Set.univ
          (cc0_sc_quantize L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7)
          fun _ => iprop((free d L (lineA d L) ∗ allX d L X (lineA d L) ∗ allR d L X (lineA d L))
            ∗ (free d L (lineB d L) ∗ allX d L X (lineB d L) ∗ allR d L X (lineB d L)) ∗ owing d L O W) : sProp 𝕄) := by
  rw [cc0_sc_quantize_eq_skeleton]; unfold cc0_sc_quantize_skel
  rw [k0_part16_eq_skeleton]; unfold k0_part16_skel
  simp only [wp_bind]
  iintro ⟨#Hm, HA, HB, HO⟩
  ihave HA := (opening d L X Y (lineA d L)) $$ HA
  icases HA with ⟨HA, HAl⟩
  ihave HB := (opening d L X Y (lineB d L)) $$ HB
  icases HB with ⟨HB, HBl⟩
  ihave Hw := (fetch_A d L X (nth (lineA (F := F) d L).side 0) _ (k0_off1_inb L 0) (off_first L)
    (h₁ := (View.wordExact_bits rfl).reshape _ _) (h₂ := (Memref.isWhole_whole _).wordExact) (h₃ := ⟨Or.inl rfl, trivial⟩)) $$ HA
  iapply wp_wand $$ Hw
  iintro %_ HA
  ihave HA := HAl $$ HA
  ihave Hw := (fetch_B d L X (nth (lineB (F := F) d L).side 0) _ (k0_off1_inb L 1) (off_second L)
    (h₁ := (View.wordExact_bits rfl).reshape _ _) (h₂ := (Memref.isWhole_whole _).wordExact) (h₃ := ⟨Or.inl rfl, trivial⟩)) $$ HB
  iapply wp_wand $$ Hw
  iintro %_ HB
  ihave HB := HBl $$ HB
  sl_for (fun (k : ℕ) (_ : Unit) => iprop(Transfers.MayWaits (thr d L) (none : HIx 1) O
    ∗ line d L X Y (lineA d L) k ∗ line d L X Y (lineB d L) k ∗ owing d L O W)) $$ [Hm HA HB HO]
  case region =>
    intro k _
    iintro ⟨#Hm, HA, HB, HO⟩
    ihave Hw := (trip d L X Y O W k _) $$ [HA HB HO]
    · iframe
      iexact Hm
    iapply wp_wand $$ Hw
    iintro %_ ⟨HA, HB, HO⟩
    iframe
    iexact Hm
  isplitl [HA HB HO]
  · iframe
    iexact Hm
  iintro %_ ⟨-, HA, HB, HO⟩
  ihave HA := (Entails.of_eq (congrArg (line d L X Y (lineA d L)) trips_pairs)) $$ HA
  ihave HB := (Entails.of_eq (congrArg (line d L X Y (lineB d L)) trips_pairs)) $$ HB
  rw [Prog.pure_eq_ret, wp_ret]
  imodintro
  iapply (closing d L X Y (lineA d L) O W _ _ rfl (dst := oAt (k0_off1 L 14#32 14#32) (k0_off1_inb L 2)) rfl) $$ [-]
  iframe HA HO
  isplitr
  · iexact Hm
  iintro ⟨HA, Hx, Hr, HO⟩
  iapply (closing d L X Y (lineB d L) O W _ _ rfl (dst := oAt (k0_off1 L 15#32 15#32) (k0_off1_inb L 3)) rfl) $$ [-]
  iframe HB HO
  isplitr
  · iexact Hm
  iintro ⟨HB, Hx', Hr', HO⟩
  rw [Prog.pure_eq_ret, wp_ret]
  imodintro
  iframe

end Cert.Proof

end
-- ==== Proof.Task.lean ====
/- A subcore's task as the launch states it: its slabs as two sets of places, its own buffers and semaphores taken out
   of all that the subcore has. -/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

variable (d : Dev nD) (L : grid0.Coords)

local notation "𝕄" => MT nD τ sig (HIx 1) (Elt F) ℕ UU ℕ
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)
local notation "inA" => (Memref.whole Cert.KernelIdeal.cc0_scratch0 : Memref Cert.KernelIdeal.sig Kind.scVector Space.vmem Cert.KernelIdeal.S128x64 EltTy.f32)
local notation "inB" => (Memref.whole Cert.KernelIdeal.cc0_scratch1 : Memref Cert.KernelIdeal.sig Kind.scVector Space.vmem Cert.KernelIdeal.S128x64 EltTy.f32)
local notation "outA" => (Memref.whole Cert.KernelIdeal.cc0_scratch2 : Memref Cert.KernelIdeal.sig Kind.scVector Space.vmem Cert.KernelIdeal.S128x64 EltTy.f32)
local notation "outB" => (Memref.whole Cert.KernelIdeal.cc0_scratch3 : Memref Cert.KernelIdeal.sig Kind.scVector Space.vmem Cert.KernelIdeal.S128x64 EltTy.f32)

variable (d : Dev nD) (L : grid0.Coords)

/-! ## The slabs of a subcore, a core -/

/-- The places of the two slabs of worker `w`. -/
def slabs (w : ℕ) : Finset S64x1024x64.Idx := Finset.univ.filter fun j => (j 0).val / 2 = w
theorem mem_slabs {w : ℕ} {j : S64x1024x64.Idx} : j ∈ slabs w ↔ (j 0).val / 2 = w :=
  Finset.mem_filter.trans ⟨fun h => h.2, fun h => ⟨Finset.mem_univ _, h⟩⟩

/-- The worker that the subcore at `L` is. -/
abbrev worker (L : grid0.Coords) : ℕ := 2 * (L 1).val + (L 0).val

theorem slabs_eq : slabs (worker L) = Finset.univ.biUnion (chunk L) := by
  ext j
  have h1 : (j 1).val < 1024 := (j 1).isLt
  rw [mem_slabs, Finset.mem_biUnion]
  constructor
  · intro h
    refine ⟨⟨8 * ((j 0).val % 2) + (j 1).val / 128, by omega⟩, Finset.mem_univ _, mem_chunk.mpr ⟨?_, ?_⟩⟩
    · show _ = _ + (8 * ((j 0).val % 2) + (j 1).val / 128) / 8
      unfold worker at h; omega
    · show _ = (8 * ((j 0).val % 2) + (j 1).val / 128) % 8
      omega
  · rintro ⟨n, -, hn⟩
    have := (mem_chunk.mp hn).1
    have hn := n.isLt
    unfold worker; omega

theorem chunk_disjoint : ∀ n ∈ (Finset.univ : Finset (Fin 16)), ∀ n' ∈ (Finset.univ : Finset (Fin 16)), n ≠ n' → Disjoint (chunk L n) (chunk L n') := by
  intro n _ n' _ h
  rw [Finset.disjoint_left]
  intro j hj hj'
  have a := mem_chunk.mp hj
  have b := mem_chunk.mp hj'
  have hn := n.isLt
  have hn' := n'.isLt
  exact h (Fin.ext (by omega))

theorem nth_cover : (Finset.univ : Finset (Fin 16)) = Finset.univ.image (nth 0) ∪ Finset.univ.image (nth 1) := by decide
theorem nth_apart : Disjoint ((Finset.univ : Finset (Fin 8)).image (nth 0)) ((Finset.univ : Finset (Fin 8)).image (nth 1)) := by decide
theorem nth_inj (s : Fin 2) : Set.InjOn (nth s) ((Finset.univ : Finset (Fin 8)) : Set (Fin 8)) := fun a _ b _ h => by
  have : 2 * a.val + s.val = 2 * b.val + s.val := congrArg Fin.val h
  exact Fin.ext (by omega)

/-- What is held of all sixteen chunks, by line. -/
theorem bigSep_chunks (Φ : Fin 16 → sProp 𝕄) :
    bigSep Finset.univ Φ = iprop((bigSep Finset.univ fun k => Φ (nth 0 k)) ∗ bigSep Finset.univ fun k => Φ (nth 1 k)) := by
  rw [nth_cover, bigSep_union nth_apart, SparseCore.bigSep_image_of_injOn (nth_inj 0), SparseCore.bigSep_image_of_injOn (nth_inj 1)]
  rfl

theorem x_slabs (f : S64x1024x64.Idx → F .f32) :
    (xLoc d ↦[slabs (worker L)]{fullShare} f : sProp 𝕄) = iprop(allX d L f (lineA d L) ∗ allX d L f (lineB d L)) := by
  rw [slabs_eq]
  exact (pointsTo_biUnion (ℓ := xLoc d) Finset.univ (chunk L) (chunk_disjoint L)).trans (bigSep_chunks _)
theorem o_slabs (f : S64x1024x64.Idx → F .f32) :
    (oLoc d ↦[slabs (worker L)]{fullShare} f : sProp 𝕄) = iprop(allO d L f (lineA d L) ∗ allO d L f (lineB d L)) := by
  rw [slabs_eq]
  exact (pointsTo_biUnion (ℓ := oLoc d) Finset.univ (chunk L) (chunk_disjoint L)).trans (bigSep_chunks _)

/-! ## A subcore's own buffers and semaphores -/

/-- A semaphore of the subcore's transfers. -/
abbrev dmaCell (s : DmaSem sig) : GSem nD τ sig := (thr d L, .dma s)

theorem dmaCell_ne {s s' : DmaSem sig} (h : s ≠ s') : dmaCell d L s ≠ dmaCell d L s' := fun e => h (by
  have := congrArg Prod.snd e
  exact SemLoc.dma.inj this)

theorem mem_dmaCell (s : DmaSem sig) (h : (SemLoc.dma s : SemLoc sig).isScoped .scVector = true) : dmaCell d L s ∈ ownCells (thr d L) :=
  (mem_ownCells (g := dmaCell d L s)).mpr ⟨rfl, h⟩

theorem own_sems : ∃ R : sProp 𝕄, (ownSems0 (thr d L) : sProp 𝕄)
    = iprop(semVal (thr d L, .dma cc0_scratch4.sem) 0 ∗ semVal (thr d L, .dma cc0_scratch5.sem) 0
        ∗ semVal (thr d L, .dma cc0_scratch6.sem) 0 ∗ semVal (thr d L, .dma cc0_scratch7.sem) 0 ∗ R) := by
  apply Exists.intro
  unfold SparseCore.Cfg.ownSems0
  rw [SparseCore.bigSep_erase' (mem_dmaCell d L cc0_scratch4.sem (by decide)),
    SparseCore.bigSep_erase' (Finset.mem_erase.mpr ⟨dmaCell_ne d L (by decide), mem_dmaCell d L cc0_scratch5.sem (by decide)⟩),
    SparseCore.bigSep_erase' (Finset.mem_erase.mpr ⟨dmaCell_ne d L (by decide), Finset.mem_erase.mpr ⟨dmaCell_ne d L (by decide),
      mem_dmaCell d L cc0_scratch6.sem (by decide)⟩⟩),
    SparseCore.bigSep_erase' (Finset.mem_erase.mpr ⟨dmaCell_ne d L (by decide), Finset.mem_erase.mpr ⟨dmaCell_ne d L (by decide),
      Finset.mem_erase.mpr ⟨dmaCell_ne d L (by decide), mem_dmaCell d L cc0_scratch7.sem (by decide)⟩⟩⟩)]

/-- A buffer of the subcore, among all it has. -/
abbrev bufAt (b : Ref sig .scVector) : DevRef τ sig := (Proc.scVector (coreOf L) (subOf L)).devRef b
theorem bufAt_ne {b b' : Ref sig .scVector} (h : b ≠ b') : bufAt L b ≠ bufAt L b' := fun e => h (Proc.devRef_injective _ e)

theorem own_bufs : ∃ R : sProp 𝕄, (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f) ∗ R) := by
  apply Exists.intro
  unfold SparseCore.Cfg.ownBufs
  have hm : ∀ b : Ref sig .scVector, (bufAt L b).owner = .proc (Proc.scVector (coreOf L) (subOf L)) → bufAt L b ∈ ownRefs (τ := τ) (.scVector (coreOf L) (subOf L)) := by
    intro b hb
    exact SparseCore.Cfg.mem_ownRefs_of_owner (p := Proc.scVector (coreOf L) (subOf L)) (b := bufAt L b) hb
  refine (SparseCore.bigSep_erase' (hm cc0_scratch0 rfl)).trans ?_
  rw [SparseCore.bigSep_erase' (Finset.mem_erase.mpr ⟨bufAt_ne L (by decide), hm cc0_scratch1 rfl⟩),
    SparseCore.bigSep_erase' (Finset.mem_erase.mpr ⟨bufAt_ne L (by decide), Finset.mem_erase.mpr ⟨bufAt_ne L (by decide), hm cc0_scratch2 rfl⟩⟩),
    SparseCore.bigSep_erase' (Finset.mem_erase.mpr ⟨bufAt_ne L (by decide), Finset.mem_erase.mpr ⟨bufAt_ne L (by decide),
      Finset.mem_erase.mpr ⟨bufAt_ne L (by decide), hm cc0_scratch3 rfl⟩⟩⟩)]

/-! ## The task -/

theorem tile_body (X Y : S64x1024x64.Idx → F .f32) (hF : (K (F := F)).Facts) (O : CellTallies nD τ sig (HIx 1)) (W : Waits sig (HIx 1)) (hO : ∀ g, O g none = 0) :
    iprop(levAts (K (F := F)).L (K (F := F)).lev ∗ emp
        ∗ ((xLoc d ↦[slabs (worker L)]{fullShare} X) ∗ (oLoc d ↦[slabs (worker L)]{fullShare} Y))
        ∗ scopedBufs (thr d L) ∗ scopedSems0 (thr d L) ∗ owes (thr d L) O W)
      ⊢ (wp frame (wpE (defs₀ (F := F)) 𝒱₀ (thr d L) none) Set.univ
          (cc0_sc_quantize L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7)
          fun _ => iprop(((xLoc d ↦[slabs (worker L)]{fullShare} X) ∗ (oLoc d ↦[slabs (worker L)]{fullShare} result X))
            ∗ scopedBufs (thr d L) ∗ scopedSems0 (thr d L)
            ∗ ∃ W', ⌜∀ p ∈ W', p ∈ W ∨ p.2 = none ∨ p.2 = some (0 : Fin 1)⌝ ∗ owes (thr d L) O W') : sProp 𝕄) := by
  obtain ⟨R, hR⟩ := own_sems (F := F) d L
  obtain ⟨R', hR'⟩ := own_bufs (F := F) d L
  rw [(K (F := F)).scopedBufs_V hF d (coreOf L) (subOf L), SparseCore.Cfg.scopedSems0_V (Val := Elt F) d (coreOf L) (subOf L), hR, hR',
    x_slabs, o_slabs, o_slabs]
  iintro ⟨#Hlv, -, ⟨⟨HxA, HxB⟩, ⟨HoA, HoB⟩⟩, ⟨Hi, Hi', Hg, Hg', Hbufs⟩, ⟨Hs4, Hs5, Hs6, Hs7, Hsems⟩, HO⟩
  ihave Hm := (show levAts (K (F := F)).L (K (F := F)).lev ⊢ Transfers.MayWaits (thr d L) (none : HIx 1) O from
    (K (F := F)).mayWaits_none (thr := thr d L) hO) $$ Hlv
  ihave Hw := (task d L X Y O W) $$ [Hm HxA HxB HoA HoB Hi Hi' Hg Hg' Hs4 Hs5 Hs6 Hs7 HO]
  · iframe Hm HxA HxB HoA HoB
    unfold free lineA lineB owing
    iframe
    iexists _
    iframe
    ipureintro
    exact fun p h => Or.inl h
  iapply wp_wand $$ Hw
  iintro %_ ⟨⟨HfA, HxA, HoA⟩, ⟨HfB, HxB, HoB⟩, HO⟩
  unfold free lineA lineB owing
  icases HfA with ⟨Hi, Hs4, Hg, Hs6⟩
  icases HfB with ⟨Hi', Hs5, Hg', Hs7⟩
  iframe

end Cert.Proof

end
-- ==== Proof.Launch.lean ====
/- The launch: the argument and the result dealt out to the two SparseCores and their subcores and taken back, and the
   whole program's run from it. -/
module

public import proofs.«01_k».proof.Proof.Task
public import Idealize.ShloMosaic.Lib.SparseCore.Quiescent
public import Idealize.ShloMosaic.Lib.Pipeline.Kit

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ
local notation "xV" => (Memref.whole Cert.KernelIdeal.main_arg0_scv : Memref Cert.KernelIdeal.sig Kind.scVector Space.hbm Cert.KernelIdeal.S64x1024x64 EltTy.f32)
local notation "oV" => (Memref.whole Cert.KernelIdeal.main_v0_scv : Memref Cert.KernelIdeal.sig Kind.scVector Space.hbm Cert.KernelIdeal.S64x1024x64 EltTy.f32)
local notation "inA" => (Memref.whole Cert.KernelIdeal.cc0_scratch0 : Memref Cert.KernelIdeal.sig Kind.scVector Space.vmem Cert.KernelIdeal.S128x64 EltTy.f32)
local notation "inB" => (Memref.whole Cert.KernelIdeal.cc0_scratch1 : Memref Cert.KernelIdeal.sig Kind.scVector Space.vmem Cert.KernelIdeal.S128x64 EltTy.f32)
local notation "outA" => (Memref.whole Cert.KernelIdeal.cc0_scratch2 : Memref Cert.KernelIdeal.sig Kind.scVector Space.vmem Cert.KernelIdeal.S128x64 EltTy.f32)
local notation "outB" => (Memref.whole Cert.KernelIdeal.cc0_scratch3 : Memref Cert.KernelIdeal.sig Kind.scVector Space.vmem Cert.KernelIdeal.S128x64 EltTy.f32)

variable (m : (ℓ : Loc nD τ sig) → Buf (Elt F) ℓ) (ρ : Dev nD → PrngReg)

/-! ## What the launch deals out -/

/-- The places of a core's slabs: every other pair of slabs. -/
def share (c : ℕ) : Finset S64x1024x64.Idx := Finset.univ.filter fun j => (j 0).val / 2 % 2 = c
theorem mem_share {c : ℕ} {j : S64x1024x64.Idx} : j ∈ share c ↔ (j 0).val / 2 % 2 = c :=
  Finset.mem_filter.trans ⟨fun h => h.2, fun h => ⟨Finset.mem_univ _, h⟩⟩

theorem share_eq (c : Fin 2) : share c.val = Finset.univ.biUnion fun i : Fin 16 => slabs (2 * i.val + c.val) := by
  ext j
  have h0 : (j 0).val < 64 := (j 0).isLt
  have hc := c.isLt
  rw [mem_share, Finset.mem_biUnion]
  constructor
  · intro h
    exact ⟨⟨(j 0).val / 4, by omega⟩, Finset.mem_univ _, mem_slabs.mpr (by show _ = 2 * ((j 0).val / 4) + _; omega)⟩
  · rintro ⟨i, -, hi⟩
    have := mem_slabs.mp hi
    omega
theorem slabs_disjoint (c : Fin 2) : ∀ i ∈ (Finset.univ : Finset (Fin 16)), ∀ i' ∈ (Finset.univ : Finset (Fin 16)), i ≠ i' →
    Disjoint (slabs (2 * i.val + c.val)) (slabs (2 * i'.val + c.val)) := by
  intro i _ i' _ h
  rw [Finset.disjoint_left]
  intro j hj hj'
  have := mem_slabs.mp hj
  have := mem_slabs.mp hj'
  exact h (Fin.ext (by omega))
theorem share_cover : (Finset.univ : Finset S64x1024x64.Idx) = Finset.univ.biUnion fun c : Fin 2 => share c.val := by
  ext j
  refine ⟨fun _ => Finset.mem_biUnion.mpr ⟨⟨(j 0).val / 2 % 2, by omega⟩, Finset.mem_univ _, mem_share.mpr rfl⟩, fun _ => Finset.mem_univ _⟩
theorem share_disjoint : ∀ c ∈ (Finset.univ : Finset (Fin 2)), ∀ c' ∈ (Finset.univ : Finset (Fin 2)), c ≠ c' → Disjoint (share c.val) (share c'.val) := by
  intro c _ c' _ h
  rw [Finset.disjoint_left]
  intro j hj hj'
  exact h (Fin.ext ((mem_share.mp hj).symm.trans (mem_share.mp hj')))

/-- A whole array, by cores; a core's share of it, by subcores. -/
theorem x_cores (d : Dev nD) (f : S64x1024x64.Idx → F .f32) :
    (xLoc d ↦{fullShare} f : sProp 𝕄) = bigSep Finset.univ fun c : Fin 2 => xLoc d ↦[share c.val]{fullShare} f := by
  rw [← pointsTo_biUnion (ℓ := xLoc d) Finset.univ (fun c : Fin 2 => share c.val) share_disjoint, ← share_cover]; try rfl
theorem o_cores (d : Dev nD) (f : S64x1024x64.Idx → F .f32) :
    (oLoc d ↦{fullShare} f : sProp 𝕄) = bigSep Finset.univ fun c : Fin 2 => oLoc d ↦[share c.val]{fullShare} f := by
  rw [← pointsTo_biUnion (ℓ := oLoc d) Finset.univ (fun c : Fin 2 => share c.val) share_disjoint, ← share_cover]; try rfl
theorem x_share (d : Dev nD) (c : Fin 2) (f : S64x1024x64.Idx → F .f32) :
    (xLoc d ↦[share c.val]{fullShare} f : sProp 𝕄) = bigSep Finset.univ fun i : Fin 16 => xLoc d ↦[slabs (2 * i.val + c.val)]{fullShare} f := by
  rw [share_eq]; exact pointsTo_biUnion (ℓ := xLoc d) Finset.univ _ (slabs_disjoint c)
theorem o_share (d : Dev nD) (c : Fin 2) (f : S64x1024x64.Idx → F .f32) :
    (oLoc d ↦[share c.val]{fullShare} f : sProp 𝕄) = bigSep Finset.univ fun i : Fin 16 => oLoc d ↦[slabs (2 * i.val + c.val)]{fullShare} f := by
  rw [share_eq]; exact pointsTo_biUnion (ℓ := oLoc d) Finset.univ _ (slabs_disjoint c)

/-- The argument and the result as they are before the run, and the result after it, over a set of places. -/
abbrev given (d : Dev nD) (I : Finset S64x1024x64.Idx) : sProp 𝕄 :=
  iprop((xLoc d ↦[I]{fullShare} m (xLoc d)) ∗ oLoc d ↦[I]{fullShare} m (oLoc d))
abbrev got (d : Dev nD) (I : Finset S64x1024x64.Idx) : sProp 𝕄 :=
  iprop((xLoc d ↦[I]{fullShare} m (xLoc d)) ∗ oLoc d ↦[I]{fullShare} result (m (xLoc d)))

theorem given_share (d : Dev nD) (c : Fin 2) : given m d (share c.val) = bigSep Finset.univ fun i : Fin 16 => given m d (slabs (2 * i.val + c.val)) := by
  unfold given; rw [bigSep_sep', x_share, o_share]
theorem got_share (d : Dev nD) (c : Fin 2) : got m d (share c.val) = bigSep Finset.univ fun i : Fin 16 => got m d (slabs (2 * i.val + c.val)) := by
  unfold got; rw [bigSep_sep', x_share, o_share]

/-- Each core takes its share of both arrays and each subcore its two slabs; back comes the result computed. -/
def P : (K (F := F)).Pay (nD := nD) (Val := Elt F) (Name := ℕ) (U := UU) where
  st := fun q d c => match q with | 0 => given m d (share c.val)
  dn := fun q d c => match q with | 0 => got m d (share c.val)
  go := fun q d c i => match q with | 0 => given m d (slabs (2 * i.val + c.val))
  td := fun q d c i => match q with | 0 => got m d (slabs (2 * i.val + c.val))
  x := fun _ _ => iprop(emp)

instance P_storable : (P (F := F) m).IsStorable where
  st q d c := match q with | 0 => (inferInstance : BI.Storable (upEmb : UEmb _ 𝕄) (given m d (share c.val)))
  dn q d c := match q with | 0 => (inferInstance : BI.Storable (upEmb : UEmb _ 𝕄) (got m d (share c.val)))
  go q d c i := match q with | 0 => (inferInstance : BI.Storable (upEmb : UEmb _ 𝕄) (given m d (slabs (2 * i.val + c.val))))
  td q d c i := match q with | 0 => (inferInstance : BI.Storable (upEmb : UEmb _ 𝕄) (got m d (slabs (2 * i.val + c.val))))

/-! ## The subcores' part -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_quantize (coordsV c s) xV (Memref.isWhole_whole _) oV (Memref.isWhole_whole _) inA (Memref.isWhole_whole _) inB (Memref.isWhole_whole _)
          outA (Memref.isWhole_whole _) outB (Memref.isWhole_whole _) cc0_scratch4 cc0_scratch5 cc0_scratch6 cc0_scratch7) ⟨⟩ c s := rfl

theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (m (xLoc d)) (m (oLoc d)) hF O W hO

theorem bigSep_subcores (Φ : ℕ → sProp 𝕄) :
    (bigSep Finset.univ fun i : Fin ((K (F := F)).nSub 0) => Φ i.val) = bigSep Finset.univ fun i : Fin 16 => Φ i.val := rfl

theorem vecSplit : (K (F := F)).VecSplit' (P m) 0 := by
  intro d c
  show given m d (share c.val) ⊢ |={Set.univ}=> iprop(
      (bigSep Finset.univ fun i : Fin ((K (F := F)).nSub 0) => given m d (slabs (2 * i.val + c.val)))
      ∗ ((bigSep Finset.univ fun i : Fin ((K (F := F)).nSub 0) => got m d (slabs (2 * i.val + c.val))) -∗ got m d (share c.val)))
  rw [bigSep_subcores (F := F) (fun i => given m d (slabs (2 * i + c.val))), bigSep_subcores (F := F) (fun i => got m d (slabs (2 * i + c.val))),
    show given m d (share c.val) = _ from given_share m d ⟨c.val, c.isLt⟩, show got m d (share c.val) = _ from got_share m d ⟨c.val, c.isLt⟩]
  iintro H; imodintro
  isplitl [H]; · iexact H
  iintro H; iexact H

/-! ## The launch element -/

theorem emp_all {I : Type} (s : Finset I) : (bigSep s fun _ => iprop(emp)) = (iprop(emp) : sProp 𝕄) := bigSep_emp_const s

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emp_all]
  iempintro

/-! ## The host's part -/

theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

/-- The two cores' shares are the two arrays. -/
theorem st0_eq (d : Dev nD) :
    (bigSep Finset.univ fun c : Fin ((K (F := F)).nCore 0) => (P m).st 0 d c) = given m d Finset.univ := by
  show (bigSep Finset.univ fun c : Fin 2 => given m d (share c.val)) = _
  unfold given; rw [bigSep_sep', ← x_cores, ← o_cores]
theorem dn0_eq (d : Dev nD) :
    (bigSep Finset.univ fun c : Fin ((K (F := F)).nCore 0) => (P m).dn 0 d c) = got m d Finset.univ := by
  show (bigSep Finset.univ fun c : Fin 2 => got m d (share c.val)) = _
  unfold got; rw [bigSep_sep', ← x_cores, ← o_cores]

abbrev FIN (d : Dev nD) : sProp 𝕄 := got m d Finset.univ

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, Hxo, Hts, -⟩, -⟩
  iapply ((K (F := F)).wp_run (D (F := F)) 𝒱 (EH := EH) (P := P m) κ d 0) $$ [Hst Hxo Hb Hts]
  isplitr; · iexact Hctx
  isplitl [Hst]; · iexact Hst
  isplitl [Hxo]
  · rw [st0_eq]; iexact Hxo
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What a final state shows: the argument as it was, and the result the kernel's function of it. -/
def fq (d : Dev nD) (s' : Phys nD τ sig (Elt F)) : Prop := s'.mem.mem (xLoc d) = m (xLoc d) ∧ s'.mem.mem (oLoc d) = result (m (xLoc d))

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%hx, HSI, -⟩
  ihave H := (SI_pointsTo_agree (st := s') (ℓ := oLoc d) (I := Finset.univ) (q := fullShare) (f := result (m (xLoc d)))) $$ [HSI Ho]
  · isplitl [HSI] <;> iassumption
  icases H with %ho
  ipureintro; exact ⟨funext fun i => hx i (Finset.mem_univ i), funext fun i => ho i (Finset.mem_univ i)⟩

/-! ## The program's run -/

def QC : PUnit × MemSt nD τ sig (Elt F) → Prop := fun r =>
  (∀ c : Dev nD, r.2.mem (xLoc c) = m (xLoc c) ∧ r.2.mem (oLoc c) = result (m (xLoc c))) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof

end
-- ==== Proof.Frames.lean ====
/-
  The two frames of the kernel, and what its ideal reading replaced.

  The kernel at the machine's floats and its ideal reading are one text but for the constant
  "step", which the first reads as the word it is. So the run of Launch.lean, proved over any
  float values, is the run of both.
-/
module

public import proofs.«01_k».proof.Defs
public import proofs.«01_k».proof.Proof.Gen.Kernel
public import proofs.«01_k».proof.Proof.Launch

@[expose] public section

noncomputable section

namespace Cert.Proof
open Idealize.ShloMosaic Idealize.SL.Sem

/-- A named constant read at the machine's floats: its own word. -/
@[reducible] def wordNamed : Named Bits := ⟨fun _ _ {φ} b => Scalar.ofBits φ b⟩

/-- The kernel on the machine's words. -/
theorem frame_kernel : Cert.quiescent_Kernel := fun m ρ _ =>
  letI := wordNamed
  (θ_run Cert.KernelIdeal.defs _ _).mono (fun _ h => ⟨fun c => (h.1 c).1, h.2⟩) (run_main (F := Bits) m ρ)

/-- The kernel over the extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The same under the precondition. -/
theorem frame_kernelIdeal_pre [Cert.Pre_finite_no_tie.Facts] : Cert.quiescent_KernelIdeal_pre_finite_no_tie := fun m ρ _ =>
  (θ_run Cert.KernelIdeal.defs _ _).mono (fun _ h => ⟨fun c => (h.1 c).1, h.2⟩) (run_main (F := Ideal) m ρ)

/-- The one constant replaced: the table gives "step" the real it is named for. -/
theorem preserved : Cert.preserves_Kernel_KernelIdeal :=
  IdealRules.named_const.statement Cert.KernelIdeal.κ "step" .f32 0x3E088889#32 ((2 / 15 : ℝ) : EReal) rfl

end Cert.Proof
-- ==== Proof.Reference.lean ====
/-
  The run of the reference.

  The reference is a line of host operations. What it leaves in its result is written here in
  four pieces, each over the ones before: the shrunk argument, the sixteen levels, the number of
  the nearest level, and the level of a number.
-/
module

public import proofs.«01_k».proof.Defs
public import proofs.«01_k».proof.Proof.Gen.ReferenceIdeal
public import Idealize.ShloMosaic.Lib.Claim
public import Idealize.ShloMosaic.Lib.Quiescent

@[expose] public section

noncomputable section

namespace Cert.Proof.Ref
open Idealize.ShloMosaic Idealize.SL.Sem
open Cert.ReferenceIdeal Cert.ReferenceIdeal.Facts₀

/-- The arrays of the reference, read over the extended reals. -/
abbrev Arr (s : Shape) : Type := FVec Ideal s .f32

/-- A constant at every index of the argument's shape. -/
def wide (w : BitVec 32) : Arr S64x1024x64 :=
  broadcastInDim S64x1024x64 ![] bcast_S_S64x1024x64 (constant (F := Ideal) S_ .f32 w)

/-- The argument drawn toward zero by the threshold, and zero within it. -/
def sparse (x : Arr S64x1024x64) : Arr S64x1024x64 :=
  mulf (mulf (Host.sign x) (subf (Host.absf x) (wide 0x3DCCCCCD#32)))
    (uitofp .f32 (cmpf .ogt (Host.absf x) (wide 0x3DCCCCCD#32)))

/-- A constant at every one of the first fifteen levels. -/
def row (w : BitVec 32) : Arr S15 :=
  broadcastInDim S15 ![] bcast_S_S15 (constant (F := Ideal) S_ .f32 w)

/-- An end of the range at every one of the first fifteen levels. -/
def stretched (w : BitVec 32) : Arr S15 :=
  broadcastInDim S15 ![0] bcast_S1_S15_0 (shapeCast S1 (constant (F := Ideal) S_ .f32 w) shapeCasts_S_S1)

/-- How far each of the first fifteen levels lies along the range. -/
def along : Arr S15 :=
  Host.divf (sitofp .f32 (iotaInDim S15 32 0)) (row 0x41700000#32)

/-- The sixteen levels. -/
def levels : Arr S16 :=
  concatenate S16 0 [⟨S15, addf (mulf (stretched 0xBF800000#32) (subf (row 0x3F800000#32) along))
      (mulf (stretched 0x3F800000#32) along)⟩,
    ⟨S1, broadcastInDim S1 ![] bcast_S_S1 (constant (F := Ideal) S_ .f32 0x3F800000#32)⟩] concatenates_S15_S1_S16_d0

/-- The distance of every element from every level. -/
def gaps (s : Arr S64x1024x64) : Arr S4194304x16 :=
  Host.absf (subf
    (broadcastInDim S4194304x16 ![0, 1] bcast_S4194304x1_S4194304x16_0_1
      (shapeCast S4194304x1 s shapeCasts_S64x1024x64_S4194304x1))
    (broadcastInDim S4194304x16 ![0, 1] bcast_S1x16_S4194304x16_0_1
      (shapeCast S1x16 levels shapeCasts_S16_S1x16)))

/-- The number of the nearest level. -/
def nearest (g : Arr S4194304x16) : S4194304.Idx → BitVec 32 := fun j =>
  (Host.argReduce reducer_argmin_f32_i32 g (iotaInDim S4194304x16 32 1)
    (constant (F := Ideal) S_ .f32 0x7F800000#32) (constantI S_ 32 0#32)
    reducesTo_S4194304x16_S4194304_d1 h_S_ j).2

/-- A number counted from the end where it is negative. -/
def wrapped (k : S4194304.Idx → BitVec 32) : S4194304x1.Idx → BitVec 32 :=
  broadcastInDim S4194304x1 ![0] bcast_S4194304_S4194304x1_0
    (select (cmpi .slt k (broadcastInDim S4194304 ![] bcast_S_S4194304 (constantI S_ 32 0#32)))
      (addi k (broadcastInDim S4194304 ![] bcast_S_S4194304 (constantI S_ 32 16#32))) k)

/-- Whether a number is the number of a level. -/
def valid (k : S4194304x1.Idx → BitVec 32) : S4194304.Idx → BitVec 1 :=
  Host.reduce IntOp.andi
    (andi (cmpi .sge k (broadcastInDim S4194304x1 ![] bcast_S_S4194304x1 (constantI S_ 32 0#32)))
      (cmpi .sle k (broadcastInDim S4194304x1 ![0, 1] bcast_S1x1_S4194304x1_0_1
        (broadcastInDim S1x1 ![1] bcast_S1_S1x1_1 (constantI S1 32 15#32)))))
    (constantI S_ 1 1#1) reducesTo_S4194304x1_S4194304_d1 h_S_

/-- The level of each number. -/
def taken (k : S4194304.Idx → BitVec 32) : Arr S4194304 :=
  select (valid (wrapped k)) (Host.gather gather_S16_S4194304x1_S4194304_n_0_n_n_0_1_1 levels (wrapped k))
    (broadcastInDim S4194304 ![] bcast_S_S4194304 (constant (F := Ideal) S_ .f32 0x7FC00000#32))

/-- The nearest level, and zero where the shrunk argument is almost zero. -/
def rounded (s : Arr S64x1024x64) : Arr S64x1024x64 :=
  select (cmpf .olt (Host.absf s) (wide 0x358637BD#32)) (wide 0x00000000#32)
    (shapeCast S64x1024x64 (taken (nearest (gaps s))) shapeCasts_S4194304_S64x1024x64)

/-- What the reference computes. -/
def out (x : Arr S64x1024x64) : Arr S64x1024x64 :=
  addf (subf (rounded (sparse x)) x) x

/-- The reference ends, its argument as it was, its result what it computes and no counter moved. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal)))
      ⟨m, fun _ => 0, ρ⟩ (fun r => (∀ c : Dev nD,
        r.2.mem ((c.tc : Thread nD τ).loc main_v25) = out (m ((c.tc : Thread nD τ).loc main_arg0))
        ∧ r.2.mem ((c.tc : Thread nD τ).loc main_arg0) = m ((c.tc : Thread nD τ).loc main_arg0))
        ∧ r.2.sem = fun _ => 0) := by
  hlo_run
  · simp only [StableHlo.TRef.ofBuf_toBuf, ↓ StableHlo.readResult, ↓ StableHlo.readPieces]
    intro c
    refine ⟨?_, trivial⟩
    simp -implicitDefEqProofs only [StableHlo.TRef.toBuf, StableHlo.TRef.ofBuf, cast_eq, id]
    rfl
  exact sem_eq_zero_of_no_sems (by decide) _

/-- The reference's frame. -/
theorem frame : Cert.quiescent_ReferenceIdeal := fun m ρ _ =>
  (θ_run Cert.ReferenceIdeal.defs _ _).mono (fun _ h => ⟨fun c => (h.1 c).2, h.2⟩) (run m ρ)

/-- The same under the precondition. -/
theorem frame_pre [Cert.Pre_finite_no_tie.Facts] : Cert.quiescent_ReferenceIdeal_pre_finite_no_tie := fun m ρ _ =>
  (θ_run Cert.ReferenceIdeal.defs _ _).mono (fun _ h => ⟨fun c => (h.1 c).2, h.2⟩) (run m ρ)

end Cert.Proof.Ref
-- ==== Proof.Consts.lean ====
/-
  The numbers the words of the two programs stand for.
-/
module

public import Idealize.ShloMosaic.Lib.Claim
public import Idealize.ShloMosaic.PureOps
public import Idealize.ShloMosaic.PureOps.Ideal
public import Idealize.ShloMosaic.PureOps.Ideal.Laws

@[expose] public section

namespace Cert.Proof
open Idealize.ShloMosaic

/-- The threshold: what the word of a tenth stands for. -/
noncomputable def lam : ℝ := 13421773 / 134217728

theorem lam_pos : 0 < lam := by unfold lam; norm_num

/-- Below this size the shrunk argument counts as zero. -/
noncomputable def tiny : ℝ := 8796093 / 8796093022208

theorem tiny_pos : 0 < tiny := by unfold tiny; norm_num

theorem word_lam : Ideal.ofBits .f32 0x3DCCCCCD#32 = ((lam : ℝ) : EReal) := by
  simp [Ideal.ofBits, Ideal.ieee, lam]; norm_num; rw [← EReal.coe_mul]; norm_num

theorem word_neg_lam : Ideal.ofBits .f32 0xBDCCCCCD#32 = ((-lam : ℝ) : EReal) := by
  simp [Ideal.ofBits, Ideal.ieee, lam]; norm_num; rw [← EReal.coe_mul]; norm_num

theorem word_tiny : Ideal.ofBits .f32 0x358637BD#32 = ((tiny : ℝ) : EReal) := by
  simp [Ideal.ofBits, Ideal.ieee, tiny]; norm_num; rw [← EReal.coe_mul]; norm_num

theorem word_zero : Ideal.ofBits .f32 0x00000000#32 = ((0 : ℝ) : EReal) := by
  simp [Ideal.ofBits, Ideal.ieee]

theorem word_half : Ideal.ofBits .f32 0x3F000000#32 = ((1 / 2 : ℝ) : EReal) := by
  simp [Ideal.ofBits, Ideal.ieee]; norm_num; rw [← EReal.coe_mul]; norm_num

theorem word_one : Ideal.ofBits .f32 0x3F800000#32 = ((1 : ℝ) : EReal) := by
  simp [Ideal.ofBits, Ideal.ieee]; norm_num; rw [← EReal.coe_mul]; norm_num

theorem word_neg_one : Ideal.ofBits .f32 0xBF800000#32 = ((-1 : ℝ) : EReal) := by
  simp [Ideal.ofBits, Ideal.ieee]; norm_num; rw [← EReal.coe_mul]; norm_num

theorem word_two : Ideal.ofBits .f32 0x40000000#32 = ((2 : ℝ) : EReal) := by
  simp [Ideal.ofBits, Ideal.ieee]; norm_num; rw [← EReal.coe_mul]; norm_num

theorem word_slope : Ideal.ofBits .f32 0x40F00000#32 = ((15 / 2 : ℝ) : EReal) := by
  simp [Ideal.ofBits, Ideal.ieee]; norm_num; rw [← EReal.coe_mul]; norm_num

theorem word_eight : Ideal.ofBits .f32 0x41000000#32 = ((8 : ℝ) : EReal) := by
  simp [Ideal.ofBits, Ideal.ieee]; norm_num; rw [← EReal.coe_mul]; norm_num

theorem word_top : Ideal.ofBits .f32 0x41780000#32 = ((31 / 2 : ℝ) : EReal) := by
  simp [Ideal.ofBits, Ideal.ieee]; norm_num; rw [← EReal.coe_mul]; norm_num

theorem word_fifteen : Ideal.ofBits .f32 0x41700000#32 = ((15 : ℝ) : EReal) := by
  simp [Ideal.ofBits, Ideal.ieee]; norm_num; rw [← EReal.coe_mul]; norm_num

theorem word_infinite : Ideal.ofBits .f32 0x7F800000#32 = (⊤ : EReal) := by
  simp [Ideal.ofBits, Ideal.ieee]

end Cert.Proof
-- ==== Proof.Fold.lean ====
/-
  The search for the nearest level: folding the comparison over a list of distances, each with
  its number, from an infinite distance, ends at a number whose distance is below every other's.
-/
module

public import proofs.«01_k».proof.Proof.Reference
public import proofs.«01_k».proof.Proof.Consts

@[expose] public section

noncomputable section

namespace Cert.Proof.Ref
open Idealize.ShloMosaic
open Cert.ReferenceIdeal Cert.ReferenceIdeal.Facts₀

/-- One step of the search. -/
abbrev step (a b : EReal × BitVec 32) : EReal × BitVec 32 := reducer_argmin_f32_i32 (F := Ideal) a b

/-- A step, in the order of the extended reals. -/
theorem step_eq (a b : EReal × BitVec 32) :
    step a b = (if a.1 < b.1 then a.1 else b.1,
      if a.1 < b.1 ∨ (a.1 = b.1 ∧ IntOp.cmpi .slt a.2 b.2 = 1#1) then a.2 else b.2) := by
  have h2 : FloatOps.cmpf (F := Ideal) (φ := .f32) .olt a.1 b.1 = BitVec.ofBool (decide (a.1 < b.1)) := rfl
  have h3 : FloatOps.cmpf (F := Ideal) (φ := .f32) .une a.1 a.1 = 0#1 := by
    show BitVec.ofBool (decide (a.1 ≠ a.1)) = 0#1
    simp
  have h5 : FloatOps.cmpf (F := Ideal) (φ := .f32) .oeq a.1 b.1 = BitVec.ofBool (decide (a.1 = b.1)) := rfl
  unfold step reducer_argmin_f32_i32
  dsimp only
  rw [h2, h3, h5]
  generalize IntOp.cmpi .slt a.2 b.2 = c
  have hc : c = 0#1 ∨ c = 1#1 := by revert c; decide
  by_cases hlt : a.1 < b.1 <;> by_cases heq : a.1 = b.1 <;> rcases hc with rfl | rfl <;>
    simp [hlt, heq, Scalar.select, IntOp.ori, IntOp.andi]

/-- A step keeps what it has where that is nearer. -/
theorem step_keep (a b : EReal × BitVec 32) (h : a.1 < b.1) : step a b = a := by
  rw [step_eq, if_pos h, if_pos (.inl h)]

/-- A step takes the next where that is nearer. -/
theorem step_take (a b : EReal × BitVec 32) (h : b.1 < a.1) : step a b = b := by
  rw [step_eq, if_neg h.not_gt, if_neg (by rintro (h' | ⟨h', _⟩); exacts [h.not_gt h', h.ne' h'])]

/-- A step from a distance and its number to the same again stays there. -/
theorem step_same (a : EReal × BitVec 32) : step a a = a := by
  rw [step_eq]
  simp

/-- The search finds the number whose distance is below every other's. -/
theorem search (p : EReal × BitVec 32) : ∀ (l : List (EReal × BitVec 32)) (a : EReal × BitVec 32),
    (∀ q ∈ l, q = p ∨ p.1 < q.1) → a = p ∨ (p.1 < a.1 ∧ p ∈ l) → l.foldl step a = p
  | [], a, _, h => by
    rcases h with h | ⟨_, h⟩
    · exact h
    · exact absurd h List.not_mem_nil
  | b :: l, a, hl, h => by
    rw [List.foldl_cons]
    refine search p l _ (fun q hq => hl q (List.mem_cons_of_mem _ hq)) ?_
    rcases h with rfl | ⟨ha, hp⟩
    · rcases hl b (List.mem_cons_self ..) with rfl | hb
      · exact .inl (step_same _)
      · exact .inl (step_keep _ _ hb)
    · rcases List.mem_cons.1 hp with rfl | hp
      · exact .inl (step_take _ _ ha)
      · rcases hl b (List.mem_cons_self ..) with rfl | hb
        · exact .inl (step_take _ _ ha)
        · refine .inr ⟨?_, hp⟩
          rw [step_eq]
          dsimp only
          split
          · exact ha
          · exact hb

end Cert.Proof.Ref
-- ==== Proof.Reals.lean ====
/-
  The mathematics of the nearest level, over the real numbers.

  The levels are `2 k / 15 - 1` for `k` from 0 to 15. The kernel scales the shrunk argument so
  that a level is a whole number, adds a half, holds the sum between a half and fifteen and a
  half, and takes the whole part. Where the sum is not a whole number from 1 to 15 that whole
  part is the number of the one nearest level.
-/
module

public import proofs.«01_k».proof.Proof.Consts

@[expose] public section

namespace Cert.Proof

/-- The `k`-th level. -/
noncomputable def lev (k : ℕ) : ℝ := 2 * (k : ℝ) / 15 - 1

/-- What the kernel takes the whole part of. -/
noncomputable def scaled (s : ℝ) : ℝ := min (31 / 2) (max (1 / 2) (s * (15 / 2) + 8))

/-- The number of the level the kernel takes. -/
noncomputable def number (s : ℝ) : ℕ := ⌊scaled s⌋₊

theorem scaled_pos (s : ℝ) : 0 ≤ scaled s := le_min (by norm_num) (le_max_of_le_left (by norm_num))

theorem number_lt (s : ℝ) : number s < 16 := by
  unfold number
  rw [Nat.floor_lt (scaled_pos s)]
  exact lt_of_le_of_lt (min_le_left _ _) (by norm_num)

/-- The distance from a level, in steps. -/
theorem gap_eq (s : ℝ) (k : ℕ) : |s - lev k| = 2 / 15 * |s * (15 / 2) + 15 / 2 - k| := by
  have h : s - lev k = 2 / 15 * (s * (15 / 2) + 15 / 2 - k) := by unfold lev; ring
  rw [h, abs_mul, abs_of_pos (by norm_num : (0 : ℝ) < 2 / 15)]

/-- Every other level is farther than the kernel's. -/
theorem nearest_strict (s : ℝ) (hs : ∀ k : ℕ, 1 ≤ k → k ≤ 15 → s * (15 / 2) + 8 ≠ k) (j : ℕ) (hj : j < 16)
    (hne : j ≠ number s) : |s - lev (number s)| < |s - lev j| := by
  have hK := number_lt s
  have h1 : (number s : ℝ) ≤ scaled s := Nat.floor_le (scaled_pos s)
  have h2 : scaled s < number s + 1 := Nat.lt_floor_add_one _
  generalize number s = K at *
  rw [gap_eq, gap_eq]
  refine mul_lt_mul_of_pos_left ?_ (by norm_num)
  rw [← sq_lt_sq]
  have hK0 : (0 : ℝ) ≤ K := by positivity
  rcases Nat.lt_or_gt_of_ne hne with hlt | hgt
  · -- a lower level: the sum is above the kernel's whole part
    have hjK : (j : ℝ) + 1 ≤ K := by exact_mod_cast hlt
    have hj0 : (0 : ℝ) ≤ j := by positivity
    have hw : (K : ℝ) ≤ s * (15 / 2) + 8 := by
      rcases le_max_iff.1 (le_trans h1 (min_le_right _ _)) with h | h
      · linarith
      · exact h
    have hw' : (K : ℝ) < s * (15 / 2) + 8 := lt_of_le_of_ne hw fun h => hs K (by omega) (by omega) h.symm
    nlinarith
  · -- a higher level: the sum is below the next whole number
    have hjK : (K : ℝ) + 1 ≤ j := by exact_mod_cast hgt
    have hj' : (j : ℝ) ≤ 15 := by exact_mod_cast (by omega : j ≤ 15)
    have hw : s * (15 / 2) + 8 < K + 1 := by
      rcases min_lt_iff.1 h2 with h | h
      · linarith
      · exact lt_of_le_of_lt (le_max_right _ _) h
    nlinarith

/-- The shrunk argument: the argument less its clamp to the threshold. -/
noncomputable def shrink (r : ℝ) : ℝ := r - min lam (max (-lam) r)

/-- The shrunk argument as the reference writes it. -/
theorem shrink_eq (r : ℝ) :
    shrink r = if lam < |r| then (if 0 < r then r - lam else r + lam) else 0 := by
  have hl := lam_pos
  unfold shrink
  by_cases h : lam < |r|
  · rw [if_pos h]
    by_cases hr : 0 < r
    · rw [if_pos hr]
      rw [abs_of_pos hr] at h
      rw [max_eq_right (by linarith), min_eq_left h.le]
    · rw [if_neg hr]
      rw [abs_of_nonpos (not_lt.1 hr)] at h
      rw [max_eq_left (by linarith), min_eq_right (by linarith)]
      ring
  · rw [if_neg h]
    obtain ⟨h1, h2⟩ := abs_le.1 (not_lt.1 h)
    rw [max_eq_right h1, min_eq_right h2, sub_self]

/-- Away from zero and the seven ties no two levels are equally near. -/
theorem no_tie (r : ℝ) (hr : ∀ k : Fin 7, |r| ≠ lam + 2 * ((k.val : ℝ) + 1) / 15) (ht : ¬ |shrink r| < tiny) :
    ∀ k : ℕ, 1 ≤ k → k ≤ 15 → shrink r * (15 / 2) + 8 ≠ k := by
  intro k h1 h2 he
  have hl := lam_pos
  have htp := tiny_pos
  rw [shrink_eq] at he ht
  by_cases h : lam < |r|
  · rw [if_pos h] at he ht
    by_cases hp : 0 < r
    · rw [if_pos hp] at he ht
      rw [abs_of_pos hp] at h hr
      have hk : 8 < k := by
        have : (8 : ℝ) < k := by linarith
        exact_mod_cast this
      refine hr ⟨k - 9, by omega⟩ ?_
      have : ((k - 9 : ℕ) : ℝ) = (k : ℝ) - 9 := by rw [Nat.cast_sub (by omega)]; norm_num
      show r = lam + 2 * (((k - 9 : ℕ) : ℝ) + 1) / 15
      rw [this]
      linarith
    · rw [if_neg hp] at he ht
      rw [abs_of_nonpos (not_lt.1 hp)] at h hr
      have hk : k < 8 := by
        have : (k : ℝ) < 8 := by linarith
        exact_mod_cast this
      refine hr ⟨7 - k, by omega⟩ ?_
      have : ((7 - k : ℕ) : ℝ) = 7 - (k : ℝ) := by rw [Nat.cast_sub (by omega)]; norm_num
      show -r = lam + 2 * (((7 - k : ℕ) : ℝ) + 1) / 15
      rw [this]
      linarith
  · rw [if_neg h] at ht
    simp [htp] at ht

end Cert.Proof
-- ==== Proof.Pre.lean ====
/-
  What the precondition says of each element: it is a real number, and its size is none of the
  seven at which two levels are equally near.
-/
module

public import proofs.«01_k».proof.Defs
public import proofs.«01_k».proof.Proof.Consts
public import Idealize.ShloMosaic.Lib.Claim
public import Idealize.ShloMosaic.Lib.ReduceAll
public import Idealize.ShloMosaic.Lib.Pipeline.Value

@[expose] public section

namespace Cert.Proof.Pre
open Idealize.ShloMosaic
open Cert.Pre_finite_no_tie

/-- The side conditions of the precondition's operations. -/
theorem facts : Cert.Pre_finite_no_tie.Facts where
  bcast_S_S64x1024x64 := by decide
  bcast_S_S7 := by decide
  bcast_S64x1024x64_S64x1024x64x1_0_1_2 := by decide
  bcast_S7_S1x1x1x7_3 := by decide
  bcast_S64x1024x64x1_S64x1024x64x7_0_1_2_3 := by decide
  bcast_S1x1x1x7_S64x1024x64x7_0_1_2_3 := by decide
  reducesTo_S64x1024x64_S_d0_1_2 := by decide
  h_S_ := by decide
  reducesTo_S64x1024x64x7_S_d0_1_2_3 := by decide

instance : Cert.Pre_finite_no_tie.Facts := facts

instance : Subsingleton S_.Idx := ⟨fun a b => funext fun d => d.elim0⟩

/-- The size of a real, as the programs take it. -/
theorem size_coe (r : ℝ) : max (r : EReal) (-(r : EReal)) = ((|r| : ℝ) : EReal) := by
  rw [← EReal.coe_neg]; exact (EReal.coe_strictMono.monotone.map_max (a := r) (b := -r)).symm

/-- The ties, as the precondition computes them. -/
noncomputable def ties : FVec Ideal S7 .f32 :=
  addf (broadcastInDim S7 ![] Facts.bcast_S_S7 (constant (F := Ideal) S_ .f32 0x3DCCCCCD#32))
    (Host.divf (mulf (broadcastInDim S7 ![] Facts.bcast_S_S7 (constant (F := Ideal) S_ .f32 0x40000000#32))
        (sitofp .f32 (addi (broadcastInDim S7 ![] Facts.bcast_S_S7 (constantI S_ 32 1#32)) (iotaInDim S7 32 0))))
      (broadcastInDim S7 ![] Facts.bcast_S_S7 (constant (F := Ideal) S_ .f32 0x41700000#32)))

/-- The place of the `k`-th comparison of the element at `i`. -/
abbrev place (i : S64x1024x64.Idx) (k : Fin 7) : S64x1024x64x7.Idx := fun
  | ⟨0, _⟩ => i 0 | ⟨1, _⟩ => i 1 | ⟨2, _⟩ => i 2 | ⟨3, _⟩ => k

/-- Every comparison of an element reads that element. -/
theorem read_element (y : FVec Ideal S64x1024x64 .f32) (i : S64x1024x64.Idx) (k : Fin 7) :
    broadcastInDim S64x1024x64x7 ![0, 1, 2, 3] Facts.bcast_S64x1024x64x1_S64x1024x64x7_0_1_2_3
      (broadcastInDim S64x1024x64x1 ![0, 1, 2] Facts.bcast_S64x1024x64_S64x1024x64x1_0_1_2 y) (place i k) = y i := by
  rw [broadcastInDim_apply (s := S64x1024x64x1) _ _ _ _ (fun | ⟨0, _⟩ => i 0 | ⟨1, _⟩ => i 1 | ⟨2, _⟩ => i 2 | ⟨3, _⟩ => (0 : Fin 1))
    (fun a => by match a with | ⟨0, _⟩ => rfl | ⟨1, _⟩ => rfl | ⟨2, _⟩ => rfl | ⟨3, _⟩ => rfl),
    broadcastInDim_apply _ _ _ _ i (fun a => by match a with | ⟨0, _⟩ => rfl | ⟨1, _⟩ => rfl | ⟨2, _⟩ => rfl)]

/-- The `k`-th comparison of every element reads the `k`-th tie. -/
theorem read_tie (y : FVec Ideal S7 .f32) (i : S64x1024x64.Idx) (k : Fin 7) :
    broadcastInDim S64x1024x64x7 ![0, 1, 2, 3] Facts.bcast_S1x1x1x7_S64x1024x64x7_0_1_2_3
      (broadcastInDim S1x1x1x7 ![3] Facts.bcast_S7_S1x1x1x7_3 y) (place i k) = y (fun | ⟨0, _⟩ => k) := by
  rw [broadcastInDim_apply (s := S1x1x1x7) _ _ _ _ (fun | ⟨0, _⟩ => (0 : Fin 1) | ⟨1, _⟩ => (0 : Fin 1) | ⟨2, _⟩ => (0 : Fin 1) | ⟨3, _⟩ => k)
    (fun a => by match a with | ⟨0, _⟩ => rfl | ⟨1, _⟩ => rfl | ⟨2, _⟩ => rfl | ⟨3, _⟩ => rfl),
    broadcastInDim_apply _ _ _ _ (fun | ⟨0, _⟩ => k) (fun a => by match a with | ⟨0, _⟩ => rfl)]

/-- The `k`-th tie, as a real number. -/
theorem tie_eq (k : Fin 7) : ties (fun | ⟨0, _⟩ => k) = ((lam + 2 * ((k.val : ℝ) + 1) / 15 : ℝ) : EReal) := by
  have hk : (1#32 + BitVec.ofNat 32 k.val).toInt = (k.val : ℤ) + 1 := by
    revert k; decide
  show Ideal.ofBits .f32 0x3DCCCCCD#32
    + Ideal.div (Ideal.ofBits .f32 0x40000000#32 * (((1#32 + BitVec.ofNat 32 k.val).toInt : ℝ) : EReal)) (Ideal.ofBits .f32 0x41700000#32) = _
  rw [hk, word_lam, word_two, word_fifteen, Ideal.div_coe (by norm_num), ← EReal.coe_mul, ← EReal.coe_mul, ← EReal.coe_add]
  congr 1
  push_cast
  ring

/-- Each element is a real number, and its size avoids the seven ties. -/
theorem elements (x : FVec Ideal S64x1024x64 .f32) (h : fn (F := Ideal) x = fun _ => 1#1) (i : S64x1024x64.Idx) :
    ∃ r : ℝ, x i = (r : EReal) ∧ ∀ k : Fin 7, |r| ≠ lam + 2 * ((k.val : ℝ) + 1) / 15 := by
  have h0 := congrFun h (fun d => d.elim0)
  unfold fn fn_part1 at h0
  obtain ⟨ha, hb⟩ := IntOp.andi_eq_one.1 h0
  have ha := Host.reduce_andi_all _ _ _ _ _ ha i
  have hr : ∃ r : ℝ, x i = (r : EReal) := by
    replace ha : BitVec.ofBool (decide (max (x i) (-(x i)) < Ideal.ofBits .f32 0x7F800000#32)) = 1#1 := ha
    rw [word_infinite] at ha
    generalize x i = y at ha
    induction y using EReal.rec with
    | bot => simp at ha
    | top => simp at ha
    | coe r => exact ⟨r, rfl⟩
  obtain ⟨r, hr⟩ := hr
  refine ⟨r, hr, fun k hk => ?_⟩
  have hb := Host.reduce_andi_all _ _ _ _ _ hb
    (place i k)
  replace hb : BitVec.ofBool (decide (
      broadcastInDim S64x1024x64x7 ![0, 1, 2, 3] Facts.bcast_S64x1024x64x1_S64x1024x64x7_0_1_2_3
        (broadcastInDim S64x1024x64x1 ![0, 1, 2] Facts.bcast_S64x1024x64_S64x1024x64x1_0_1_2 (Host.absf x)) (place i k)
      ≠ broadcastInDim S64x1024x64x7 ![0, 1, 2, 3] Facts.bcast_S1x1x1x7_S64x1024x64x7_0_1_2_3
        (broadcastInDim S1x1x1x7 ![3] Facts.bcast_S7_S1x1x1x7_3 ties) (place i k))) = 1#1 := hb
  rw [read_element, read_tie, tie_eq] at hb
  have he : Host.absf x i = ((|r| : ℝ) : EReal) := by
    show max (x i) (-(x i)) = _
    rw [hr, size_coe]
  rw [he, hk] at hb
  simp at hb

end Cert.Proof.Pre
-- ==== Proof.Level.lean ====
/-
  What the kernel computes of a real number: the level whose number it takes, and zero where the
  shrunk argument is almost zero.
-/
module

public import proofs.«01_k».proof.Proof.Elem
public import proofs.«01_k».proof.Proof.Reals
public import proofs.«01_k».proof.Proof.Pre

@[expose] public section

noncomputable section

namespace Cert.Proof
open Idealize.ShloMosaic Cert.Proof.Pre

/-- The smaller of two reals, as the programs take it. -/
theorem min_coe (a b : ℝ) : min (a : EReal) (b : EReal) = ((min a b : ℝ) : EReal) :=
  (EReal.coe_strictMono.monotone.map_min (a := a) (b := b)).symm

/-- The larger of two reals, as the programs take it. -/
theorem max_coe (a b : ℝ) : max (a : EReal) (b : EReal) = ((max a b : ℝ) : EReal) :=
  (EReal.coe_strictMono.monotone.map_max (a := a) (b := b)).symm

/-- The kernel's step stands for two fifteenths. -/
theorem step_eq : Named.named (F := Ideal) Cert.KernelIdeal.κ "step" (φ := .f32) 0x3E088889#32 = ((2 / 15 : ℝ) : EReal) :=
  IdealRules.named_const.ideal_named_scalar _ _ _ _ rfl

theorem shrunk_coe (r : ℝ) : shrunk (F := Ideal) (r : EReal) = ((shrink r : ℝ) : EReal) := by
  show (r : EReal) - min (Ideal.ofBits .f32 0x3DCCCCCD#32) (max (Ideal.ofBits .f32 0xBDCCCCCD#32) (r : EReal)) = _
  rw [word_lam, word_neg_lam, max_coe, min_coe, ← EReal.coe_sub]
  rfl

theorem level_coe (s : ℝ) : level (F := Ideal) (s : EReal) = BitVec.ofNat 32 (number s) := by
  show Ideal.fptosi 32 (min (Ideal.ofBits .f32 0x41780000#32) (max (Ideal.ofBits .f32 0x3F000000#32)
    ((s : EReal) * Ideal.ofBits .f32 0x40F00000#32 + Ideal.ofBits .f32 0x41000000#32))) = _
  rw [word_top, word_half, word_slope, word_eight, ← EReal.coe_mul, ← EReal.coe_add, max_coe, min_coe]
  show Ideal.fptosi 32 ((scaled s : ℝ) : EReal) = _
  have hn := number_lt s
  have hf : ⌊scaled s⌋ = (number s : ℤ) := (Int.natCast_floor_eq_floor (scaled_pos s)).symm
  rw [Ideal.fptosi, Ideal.toIntClamped_coe, if_pos (scaled_pos s), hf, min_eq_right (by norm_num; omega), max_eq_right (by norm_num),
    BitVec.ofInt_natCast]

/-- What the kernel computes of a real number. -/
theorem elem_coe (r : ℝ) :
    elem (F := Ideal) (r : EReal) = if |shrink r| < tiny then ((0 : ℝ) : EReal) else ((lev (number (shrink r)) : ℝ) : EReal) := by
  unfold elem
  rw [shrunk_coe]
  generalize shrink r = s
  unfold quantized
  have h1 : FloatOps.cmpf (F := Ideal) (φ := .f32) .olt (FloatOps.absf (s : EReal)) (Scalar.ofBits .f32 0x358637BD#32)
      = BitVec.ofBool (decide (|s| < tiny)) := by
    show BitVec.ofBool (decide (max (s : EReal) (-(s : EReal)) < Ideal.ofBits .f32 0x358637BD#32)) = _
    rw [size_coe, word_tiny]
    simp only [EReal.coe_lt_coe_iff]
  rw [h1, level_coe, step_eq]
  have hn := number_lt s
  have hi : (BitVec.ofNat 32 (number s)).toInt = (number s : ℤ) := by
    generalize number s = n at hn
    interval_cases n <;> rfl
  by_cases h : |s| < tiny
  · rw [if_pos h, decide_eq_true h]
    exact word_zero
  · rw [if_neg h, decide_eq_false h]
    show (((BitVec.ofNat 32 (number s)).toInt : ℝ) : EReal) * ((2 / 15 : ℝ) : EReal) - Ideal.ofBits .f32 0x3F800000#32 = _
    rw [hi, word_one, ← EReal.coe_mul, ← EReal.coe_sub]
    congr 1
    unfold lev
    push_cast
    ring

end Cert.Proof
-- ==== Proof.Value.lean ====
/-
  What the reference computes of each element.
-/
module

public import proofs.«01_k».proof.Proof.Fold
public import proofs.«01_k».proof.Proof.Level
public import Idealize.ShloMosaic.Lib.Pipeline.Value
public import Idealize.ShloMosaic.Lib.ReduceAll
public import Idealize.ShloMosaic.Lib.Pointwise.Reshape
public import Idealize.ShloMosaic.Lib.Routing.OpsSet

@[expose] public section

noncomputable section

namespace Cert.Proof.Ref
open Idealize.ShloMosaic Cert.Proof.Pre
open Cert.ReferenceIdeal Cert.ReferenceIdeal.Facts₀

/-! ## The levels -/

/-- The place of a level. -/
abbrev at16 (k : Fin 16) : S16.Idx := fun | ⟨0, _⟩ => k

theorem level_low (k : Fin 16) (hk : k.val < 15) : levels (at16 k) = ((lev k.val : ℝ) : EReal) := by
  unfold levels
  rw [concatenate_pair_apply_left (t := S16) (s₁ := S15) (s₂ := S1) 0 _ _ _ _ rfl (fun | ⟨0, _⟩ => ⟨k.val, hk⟩)
    (fun b => by match b with | ⟨0, _⟩ => rfl)]
  have hi : (BitVec.ofNat 32 k.val).toInt = (k.val : ℤ) := by revert k; decide
  show Ideal.ofBits .f32 0xBF800000#32 * (Ideal.ofBits .f32 0x3F800000#32
      - Ideal.div (((BitVec.ofNat 32 k.val).toInt : ℝ) : EReal) (Ideal.ofBits .f32 0x41700000#32))
    + Ideal.ofBits .f32 0x3F800000#32 * Ideal.div (((BitVec.ofNat 32 k.val).toInt : ℝ) : EReal) (Ideal.ofBits .f32 0x41700000#32) = _
  rw [hi, word_neg_one, word_one, word_fifteen, Ideal.div_coe (by norm_num)]
  simp only [← EReal.coe_mul, ← EReal.coe_sub, ← EReal.coe_add]
  congr 1
  unfold lev
  push_cast
  ring

theorem level_high : levels (at16 15) = ((lev 15 : ℝ) : EReal) := by
  unfold levels
  rw [concatenate_pair_apply_right (t := S16) (s₁ := S15) (s₂ := S1) 0 _ _ _ _ rfl rfl (fun | ⟨0, _⟩ => (0 : Fin 1))
    (fun b hb => by match b with | ⟨0, _⟩ => exact absurd rfl hb) rfl]
  show Ideal.ofBits .f32 0x3F800000#32 = _
  rw [word_one]
  congr 1
  unfold lev
  norm_num

theorem level_eq (k : Fin 16) : levels (at16 k) = ((lev k.val : ℝ) : EReal) := by
  by_cases hk : k.val < 15
  · exact level_low k hk
  · obtain rfl : k = 15 := Fin.ext (by have := k.isLt; show k.val = 15; omega)
    exact level_high

/-! ## The distances -/

/-- The place of an element in the flat array. -/
def flat (i : S64x1024x64.Idx) : S4194304.Idx := Shape.reshapeEquiv shapeCasts_S4194304_S64x1024x64 i

/-- The place of the distance of a flat element from a level. -/
abbrev pair (j : S4194304.Idx) (k : Fin 16) : S4194304x16.Idx := fun | ⟨0, _⟩ => j 0 | ⟨1, _⟩ => k

/-- The place of a flat element in the one-column array. -/
abbrev col (j : S4194304.Idx) : S4194304x1.Idx := fun | ⟨0, _⟩ => j 0 | ⟨1, _⟩ => (0 : Fin 1)

theorem flat_rowMajor (i : S64x1024x64.Idx) : (S64x1024x64.rowMajor i).val = (flat i 0).val := by
  rw [← rowMajor_val1 (flat i)]
  unfold flat Shape.reshapeEquiv
  simp

theorem read_flat (s : Arr S64x1024x64) (i : S64x1024x64.Idx) :
    shapeCast S4194304x1 s shapeCasts_S64x1024x64_S4194304x1 (col (flat i)) = s i := by
  refine shapeCast_apply _ _ _ _ ?_
  rw [flat_rowMajor, rowMajor_val2 _ 1 rfl]
  show _ = (flat i 0).val * 1 + 0
  omega

theorem gap_at (s : Arr S64x1024x64) (i : S64x1024x64.Idx) (r : ℝ) (h : s i = (r : EReal)) (k : Fin 16) :
    gaps s (pair (flat i) k) = ((|r - lev k.val| : ℝ) : EReal) := by
  have h1 : broadcastInDim S4194304x16 ![0, 1] bcast_S4194304x1_S4194304x16_0_1
      (shapeCast S4194304x1 s shapeCasts_S64x1024x64_S4194304x1) (pair (flat i) k) = (r : EReal) := by
    rw [broadcastInDim_apply (s := S4194304x1) _ _ _ _ (col (flat i))
      (fun a => by match a with | ⟨0, _⟩ => rfl | ⟨1, _⟩ => rfl), read_flat, h]
  have h2 : broadcastInDim S4194304x16 ![0, 1] bcast_S1x16_S4194304x16_0_1
      (shapeCast S1x16 levels shapeCasts_S16_S1x16) (pair (flat i) k) = ((lev k.val : ℝ) : EReal) := by
    rw [broadcastInDim_apply (s := S1x16) _ _ _ _ (fun | ⟨0, _⟩ => (0 : Fin 1) | ⟨1, _⟩ => k)
      (fun a => by match a with | ⟨0, _⟩ => rfl | ⟨1, _⟩ => rfl)]
    rw [shapeCast_apply _ _ _ (at16 k) (by rw [rowMajor_val1, rowMajor_val2 _ 16 rfl]; show k.val = 0 * 16 + k.val; omega), level_eq]
  unfold gaps
  show max (_ - _) (-(_ - _)) = _
  rw [h1, h2, ← EReal.coe_sub, size_coe]

/-! ## The search -/

/-- What a search over an axis runs through: the pairs at the places that drop to the result's. -/
theorem mem_fiber {α β : Type} {s t : Shape} {axes : List (Fin s.rank)} (x : s.Idx → α) (y : s.Idx → β) (h : s.ReducesTo axes t)
    (j : t.Idx) (q : α × β) : q ∈ Host.argReduceFiber x y h j ↔ ∃ n : s.Idx, h.drop n = j ∧ (x n, y n) = q := by
  unfold Host.argReduceFiber
  rw [List.mem_map]
  constructor
  · rintro ⟨n, hn, e⟩
    exact ⟨s.rowMajor.symm n, of_decide_eq_true (List.mem_filter.1 hn).2, e⟩
  · rintro ⟨n, hn, e⟩
    refine ⟨s.rowMajor n, List.mem_filter.2 ⟨List.mem_finRange _, ?_⟩, ?_⟩
    · rw [Equiv.symm_apply_apply]
      exact decide_eq_true hn
    · rw [Equiv.symm_apply_apply]
      exact e

/-- A search that keeps one pair nearer than all the others of its list ends at that pair. -/
theorem search_reduce {s t u : Shape} {axes : List (Fin s.rank)} (x : FVec Ideal s .f32) (y : s.Idx → BitVec 32)
    (ix : FVec Ideal u .f32) (iy : u.Idx → BitVec 32) (h : s.ReducesTo axes t) (hu : 0 < u.numel) (j : t.Idx) (v : EReal) (n : BitVec 32)
    (hall : ∀ q ∈ Host.argReduceFiber x y h j, q = (v, n) ∨ v < q.1) (hinit : v < ix (Shape.Idx.first hu))
    (hp : (v, n) ∈ Host.argReduceFiber x y h j) :
    (Host.argReduce (reducer_argmin_f32_i32 (F := Ideal)) x y ix iy h hu j).2 = n := by
  rw [Ideal.argReduce_eq_reduce2, Host.reduce2_eq_foldl_fiber]
  generalize Host.argReduceFiber x y h j = l at *
  exact congrArg Prod.snd (search (v, n) l _ hall (.inr ⟨hinit, hp⟩))

theorem drop_iff (j : S4194304.Idx) (n : S4194304x16.Idx) :
    reducesTo_S4194304x16_S4194304_d1.drop n = j ↔ ∃ k : Fin 16, n = pair j k := by
  have hd : (reducesTo_S4194304x16_S4194304_d1.drop n 0).val = (n 0).val := Shape.ReducesTo.drop_apply_val_of_eq _ _ _ _
  constructor
  · intro e
    refine ⟨n 1, funext fun a => ?_⟩
    match a with
    | ⟨0, _⟩ => exact Fin.ext (by rw [← e]; exact hd.symm)
    | ⟨1, _⟩ => rfl
  · rintro ⟨k, rfl⟩
    funext a
    match a with
    | ⟨0, _⟩ => exact Fin.ext hd

/-- The search as the reference runs it. -/
theorem nearest_def (g : Arr S4194304x16) : nearest g = fun j => (Host.argReduce reducer_argmin_f32_i32 g (iotaInDim S4194304x16 32 1)
    (constant (F := Ideal) S_ .f32 0x7F800000#32) (constantI S_ 32 0#32)
    reducesTo_S4194304x16_S4194304_d1 h_S_ j).2 := rfl

theorem nearest_eq (g : Arr S4194304x16) (j : S4194304.Idx) (v : EReal) (n : BitVec 32)
    (hall : ∀ q ∈ Host.argReduceFiber g (iotaInDim S4194304x16 32 1) reducesTo_S4194304x16_S4194304_d1 j, q = (v, n) ∨ v < q.1)
    (hinit : v < constant (F := Ideal) S_ .f32 0x7F800000#32 (Shape.Idx.first h_S_))
    (hp : (v, n) ∈ Host.argReduceFiber g (iotaInDim S4194304x16 32 1) reducesTo_S4194304x16_S4194304_d1 j) :
    nearest g j = n :=
  (congrFun (nearest_def g) j).trans (search_reduce g (iotaInDim S4194304x16 32 1) (constant (F := Ideal) S_ .f32 0x7F800000#32)
    (constantI S_ 32 0#32) reducesTo_S4194304x16_S4194304_d1 h_S_ j v n hall hinit hp)

/-- The search finds the one nearest level. -/
theorem nearest_at (s : Arr S64x1024x64) (i : S64x1024x64.Idx) (r : ℝ) (h : s i = (r : EReal)) (K : Fin 16)
    (hK : ∀ j : Fin 16, j ≠ K → |r - lev K.val| < |r - lev j.val|) :
    nearest (gaps s) (flat i) = BitVec.ofNat 32 K.val := by
  have hg := gap_at s i r h
  refine nearest_eq (gaps s) (flat i) (gaps s (pair (flat i) K)) (BitVec.ofNat 32 K.val) ?_ ?_ ?_
  · intro q hq
    obtain ⟨n, hn, rfl⟩ := (mem_fiber _ _ _ _ _).1 hq
    obtain ⟨k, rfl⟩ := (drop_iff _ n).1 hn
    by_cases hkK : k = K
    · left
      rw [hkK]
      rfl
    · right
      show gaps s (pair (flat i) K) < gaps s (pair (flat i) k)
      rw [hg, hg, EReal.coe_lt_coe_iff]
      exact hK k hkK
  · show _ < Ideal.ofBits .f32 0x7F800000#32
    rw [hg, word_infinite]
    exact EReal.coe_lt_top _
  · exact (mem_fiber _ _ _ _ _).2 ⟨pair (flat i) K, (drop_iff _ _).2 ⟨K, rfl⟩, rfl⟩

/-! ## The level of a number -/

/-- A reduction by `and` is one where it starts at one and meets only ones. -/
theorem reduce_one {s t u : Shape} {axes : List (Fin s.rank)} (x : s.Idx → BitVec 1) (init : u.Idx → BitVec 1) (h : s.ReducesTo axes t)
    (hu : 0 < u.numel) (j : t.Idx) (hi : init (Shape.Idx.first hu) = 1#1) (hx : ∀ n, h.drop n = j → x n = 1#1) :
    Host.reduce IntOp.andi x init h hu j = 1#1 := by
  rw [Host.reduce_eq_foldl]
  exact IntOp.foldl_andi_one x _ _ hi fun n hn => hx n (of_decide_eq_true (List.mem_filter.1 hn).2)

theorem wrapped_at (k : S4194304.Idx → BitVec 32) (j : S4194304.Idx) (K : Fin 16) (h : k j = BitVec.ofNat 32 K.val) :
    wrapped k (col j) = BitVec.ofNat 32 K.val := by
  unfold wrapped
  rw [broadcastInDim_apply (s := S4194304) _ _ _ _ j (fun a => by match a with | ⟨0, _⟩ => rfl)]
  show Scalar.select (IntOp.cmpi .slt (k j) 0#32) (k j + 16#32) (k j) = _
  rw [h]
  clear h
  revert K
  decide

theorem col_of_drop (j : S4194304.Idx) (n : S4194304x1.Idx) (hn : reducesTo_S4194304x1_S4194304_d1.drop n = j) : n = col j := by
  have hd : (reducesTo_S4194304x1_S4194304_d1.drop n 0).val = (n 0).val := Shape.ReducesTo.drop_apply_val_of_eq _ _ _ _
  funext a
  match a with
  | ⟨0, _⟩ => exact Fin.ext (by rw [← hn]; exact hd.symm)
  | ⟨1, _⟩ => exact Fin.ext (by have := (n 1).isLt; show (n 1).val = 0; exact Nat.lt_one_iff.1 this)

theorem valid_at (k : S4194304x1.Idx → BitVec 32) (j : S4194304.Idx) (K : Fin 16) (h : k (col j) = BitVec.ofNat 32 K.val) :
    valid k j = 1#1 := by
  unfold valid
  refine reduce_one _ _ _ _ _ rfl fun n hn => ?_
  rw [col_of_drop j n hn]
  show IntOp.andi (IntOp.cmpi .sge (k (col j)) 0#32) (IntOp.cmpi .sle (k (col j)) 15#32) = 1#1
  rw [h]
  clear h
  revert K
  decide

theorem gathered_at (k : S4194304x1.Idx → BitVec 32) (j : S4194304.Idx) (K : Fin 16) (h : k (col j) = BitVec.ofNat 32 K.val) :
    Host.gather gather_S16_S4194304x1_S4194304_n_0_n_n_0_1_1 levels k j = levels (at16 K) := by
  have hj : j = ix1 (j 0) := eq_ix1 j
  have hc : k (ix2 (j 0) (0 : Fin 1)) = BitVec.ofNat 32 K.val := by
    rw [← h]
    refine congrArg k (funext fun a => ?_)
    match a with
    | ⟨0, _⟩ => rfl
    | ⟨1, _⟩ => rfl
  have e := Routing.gather_take1 (N := 16) (n := 4194304) gather_S16_S4194304x1_S4194304_n_0_n_n_0_1_1 rfl rfl rfl rfl levels k (j 0) K hc
    (by norm_num)
  rw [hj]
  refine e.trans (congrArg levels (funext fun a => ?_))
  match a with
  | ⟨0, _⟩ => rfl

theorem taken_at (k : S4194304.Idx → BitVec 32) (j : S4194304.Idx) (K : Fin 16) (h : k j = BitVec.ofNat 32 K.val) :
    taken k j = ((lev K.val : ℝ) : EReal) := by
  have hw := wrapped_at k j K h
  unfold taken
  show Scalar.select (valid (wrapped k) j) (Host.gather gather_S16_S4194304x1_S4194304_n_0_n_n_0_1_1 levels (wrapped k) j) _ = _
  rw [valid_at _ j K hw, gathered_at _ j K hw, level_eq]
  rfl

/-! ## The whole element -/

theorem sparse_at (x : Arr S64x1024x64) (i : S64x1024x64.Idx) (r : ℝ) (h : x i = (r : EReal)) :
    sparse x i = ((shrink r : ℝ) : EReal) := by
  have hl := lam_pos
  show Ideal.sign (x i) * (max (x i) (-(x i)) - Ideal.ofBits .f32 0x3DCCCCCD#32)
    * (((BitVec.ofBool (decide (Ideal.ofBits .f32 0x3DCCCCCD#32 < max (x i) (-(x i))))).toNat : ℝ) : EReal) = _
  rw [h, size_coe, word_lam, Ideal.sign_coe, ← EReal.coe_sub]
  simp only [EReal.coe_lt_coe_iff]
  rw [← EReal.coe_mul, ← EReal.coe_mul]
  congr 1
  rw [shrink_eq]
  by_cases hr : lam < |r|
  · rw [if_pos hr, decide_eq_true hr]
    have h1 : ((BitVec.ofBool true).toNat : ℝ) = 1 := Nat.cast_one
    rw [h1, mul_one]
    by_cases hp : 0 < r
    · rw [if_pos hp, abs_of_pos hp, sign_pos hp]
      simp
    · have hn : r < 0 := by
        rcases lt_or_eq_of_le (not_lt.1 hp) with h' | h'
        · exact h'
        · rw [h', abs_zero] at hr
          exact absurd hr hl.not_gt
      rw [if_neg hp, abs_of_neg hn, sign_neg hn]
      simp
      ring
  · rw [if_neg hr, decide_eq_false hr]
    simp

/-- What the reference computes of an element is what the kernel does. -/
theorem out_at (x : Arr S64x1024x64) (i : S64x1024x64.Idx) (r : ℝ) (h : x i = (r : EReal))
    (hr : ∀ k : Fin 7, |r| ≠ lam + 2 * ((k.val : ℝ) + 1) / 15) : out x i = elem (F := Ideal) (x i) := by
  have hs := sparse_at x i r h
  have hq : rounded (sparse x) i = if |shrink r| < tiny then ((0 : ℝ) : EReal) else ((lev (number (shrink r)) : ℝ) : EReal) := by
    show Scalar.select (BitVec.ofBool (decide (max (sparse x i) (-(sparse x i)) < Ideal.ofBits .f32 0x358637BD#32)))
      (Ideal.ofBits .f32 0x00000000#32) (taken (nearest (gaps (sparse x))) (flat i)) = _
    rw [hs, size_coe, word_tiny, word_zero]
    simp only [EReal.coe_lt_coe_iff]
    by_cases ht : |shrink r| < tiny
    · rw [if_pos ht, decide_eq_true ht]
      rfl
    · rw [if_neg ht, decide_eq_false ht, taken_at _ _ ⟨number (shrink r), number_lt _⟩
        (nearest_at _ i _ hs _ fun j hj => nearest_strict _ (no_tie r hr ht) j.val j.isLt fun e => hj (Fin.ext e))]
      rfl
  show rounded (sparse x) i - x i + x i = _
  rw [hq, h, elem_coe]
  split <;> rw [← EReal.coe_sub, ← EReal.coe_add, sub_add_cancel]

end Cert.Proof.Ref
-- ==== Proof.Equation.lean ====
/-
  The kernel's ideal reading and the reference leave the same result.
-/
module

public import proofs.«01_k».proof.Proof.Frames
public import proofs.«01_k».proof.Proof.Value

@[expose] public section

noncomputable section

namespace Cert.Proof
open Idealize.ShloMosaic Idealize.SL.Sem

/-- On an argument the precondition admits, the reference's result is the kernel's. -/
theorem out_eq (x : FVec Ideal Cert.ReferenceIdeal.S64x1024x64 .f32) (h : Cert.Pre_finite_no_tie.fn (F := Ideal) x = fun _ => 1#1) :
    Ref.out x = fun i => elem (F := Ideal) (x i) := by
  funext i
  obtain ⟨r, hx, hr⟩ := Pre.elements x h i
  exact Ref.out_at x i r hx hr

/-- The two programs leave the same result. -/
theorem algebraic : Cert.algebraic_KernelIdeal_ReferenceIdeal_pre_finite_no_tie := by
  intro m ρ m' ρ' hpre harg
  refine ⟨fun c i => elem (F := Ideal) (m ((c.tc : Thread Cert.KernelIdeal.nD Cert.KernelIdeal.τ).loc Cert.KernelIdeal.main_arg0) i), ?_, ?_⟩
  · exact (θ_run Cert.KernelIdeal.defs _ _).mono (fun _ h c => ⟨(h.1 c).2, (h.1 c).1⟩) (run_main (F := Ideal) m ρ)
  · refine (θ_run Cert.ReferenceIdeal.defs _ _).mono (fun _ h c => ⟨?_, (h.1 c).2⟩) (Ref.run m' ρ')
    rw [(h.1 c).1, harg c]
    exact out_eq _ (hpre c)

end Cert.Proof
-- ==== Proof.lean ====
/-
  The claim, put together from the modules beside this one.

  Launch.lean has the kernel's run, Reference.lean the reference's, Value.lean the equation of
  the two at an element, and Frames.lean and Equation.lean the claims themselves.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equation

@[expose] public section

noncomputable section

namespace Cert.Proof

/-- Everything claimed of the kernel, its ideal reading and the reference. -/
theorem claim : Cert.Claim :=
  ⟨Cert.Kernel.Gen.facts, Cert.KernelIdeal.Gen.facts, Cert.ReferenceIdeal.Gen.facts, Pre.facts,
    frame_kernel, frame_kernelIdeal, frame_kernelIdeal_pre, Ref.frame, Ref.frame_pre, preserved, algebraic⟩

end Cert.Proof

end
